-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16x4096x64 : Shape := ⟨4, ![2, 16, 4096, 64]⟩
abbrev S_ : Shape := ⟨0, ![]⟩

class Facts : Prop where
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel

variable [Facts]

def fn {F : FTy → Type} [FloatOps F] (main_arg0 : FVec F S2x16x4096x64 .f32) (main_arg1 : FVec F S2x16x4096x64 .f32) (main_arg2 : FVec F S2x16x4096x64 .f32) : IVec S_ 1 :=
  let main_v0 : FVec F S2x16x4096x64 .f32 := Host.absf main_arg0
  let main_cst : FVec F S_ .f32 := constant S_ .f32 0x7F800000#32
  let main_v1 : FVec F S2x16x4096x64 .f32 := broadcastInDim S2x16x4096x64 ![] bcast_S_S2x16x4096x64 main_cst
  let main_v2 : IVec S2x16x4096x64 1 := cmpf .olt main_v0 main_v1
  let main_c : IVec S_ 1 := constantI S_ 1 1#1
  let main_v3 : IVec S_ 1 := (fun x v => Host.reduce IntOp.andi x v reducesTo_S2x16x4096x64_S_d0_1_2_3 h_S_) main_v2 main_c
  let main_v4 : FVec F S2x16x4096x64 .f32 := Host.absf main_arg1
  let main_cst_0 : FVec F S_ .f32 := constant S_ .f32 0x7F800000#32
  let main_v5 : FVec F S2x16x4096x64 .f32 := broadcastInDim S2x16x4096x64 ![] bcast_S_S2x16x4096x64 main_cst_0
  let main_v6 : IVec S2x16x4096x64 1 := cmpf .olt main_v4 main_v5
  let main_c_1 : IVec S_ 1 := constantI S_ 1 1#1
  let main_v7 : IVec S_ 1 := (fun x v => Host.reduce IntOp.andi x v reducesTo_S2x16x4096x64_S_d0_1_2_3 h_S_) main_v6 main_c_1
  let main_v8 : IVec S_ 1 := andi main_v3 main_v7
  let main_v9 : FVec F S2x16x4096x64 .f32 := Host.absf main_arg2
  let main_cst_2 : FVec F S_ .f32 := constant S_ .f32 0x7F800000#32
  let main_v10 : FVec F S2x16x4096x64 .f32 := broadcastInDim S2x16x4096x64 ![] bcast_S_S2x16x4096x64 main_cst_2
  let main_v11 : IVec S2x16x4096x64 1 := cmpf .olt main_v9 main_v10
  let main_c_3 : IVec S_ 1 := constantI S_ 1 1#1
  let main_v12 : IVec S_ 1 := (fun x v => Host.reduce IntOp.andi x v reducesTo_S2x16x4096x64_S_d0_1_2_3 h_S_) main_v11 main_c_3
  let main_v13 : IVec S_ 1 := andi main_v8 main_v12
  main_v13
-- ==== Kernel.lean ====
abbrev S2x16x4096x64 : Shape := ⟨4, ![2, 16, 4096, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x128 : Shape := ⟨2, ![64, 128]⟩
abbrev S128x64 : Shape := ⟨2, ![128, 64]⟩
abbrev S2x64x65536 : Shape := ⟨3, ![2, 64, 65536]⟩
abbrev S1x1x512x64 : Shape := ⟨4, ![1, 1, 512, 64]⟩
abbrev S1x64x512 : Shape := ⟨3, ![1, 64, 512]⟩
abbrev S512x64 : Shape := ⟨2, ![512, 64]⟩
abbrev S512x128 : Shape := ⟨2, ![512, 128]⟩
abbrev S64x512 : Shape := ⟨2, ![64, 512]⟩
abbrev S512 : Shape := ⟨1, ![512]⟩
abbrev S512x1 : Shape := ⟨2, ![512, 1]⟩

abbrev nBuf : Space → Nat
  | .hbm => 29
  | .vmem => 12
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S64, .i32⟩
  | .hbm, ⟨4, _⟩ => ⟨S64x1, .i32⟩
  | .hbm, ⟨5, _⟩ => ⟨S1x64, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x128, .f32⟩
  | .hbm, ⟨26, _⟩ => ⟨S128x64, .f32⟩
  | .hbm, ⟨27, _⟩ => ⟨S2x16x4096x64, .f32⟩
  | .hbm, ⟨28, _⟩ => ⟨S2x64x65536, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x512x64, .f32⟩
  | .local _ .vmem, ⟨5, _⟩ => ⟨S1x1x512x64, .f32⟩
  | .local _ .vmem, ⟨6, _⟩ => ⟨S64x128, .f32⟩
  | .local _ .vmem, ⟨7, _⟩ => ⟨S128x64, .f32⟩
  | .local _ .vmem, ⟨8, _⟩ => ⟨S1x1x512x64, .f32⟩
  | .local _ .vmem, ⟨9, _⟩ => ⟨S1x1x512x64, .f32⟩
  | .local _ .vmem, ⟨10, _⟩ => ⟨S1x64x512, .f32⟩
  | .local _ .vmem, ⟨11, _⟩ => ⟨S1x64x512, .f32⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x16x4096x64 : Shape := ⟨4, ![2, 16, 4096, 64]⟩
abbrev S64 : Shape := ⟨1, ![64]⟩
abbrev S2x16x4096x128 : Shape := ⟨4, ![2, 16, 4096, 128]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S2x16x4096x64x64 : Shape := ⟨5, ![2, 16, 4096, 64, 64]⟩
abbrev S2x16x4096x1x64 : Shape := ⟨5, ![2, 16, 4096, 1, 64]⟩
abbrev S_ : Shape := ⟨0, ![]⟩
abbrev S2x16x4096x4 : Shape := ⟨4, ![2, 16, 4096, 4]⟩
abbrev S2x16x4096 : Shape := ⟨3, ![2, 16, 4096]⟩
abbrev S2x16x4096x1 : Shape := ⟨4, ![2, 16, 4096, 1]⟩
abbrev S1x1x1x64 : Shape := ⟨4, ![1, 1, 1, 64]⟩
abbrev S2x16x4096x64x1 : Shape := ⟨5, ![2, 16, 4096, 64, 1]⟩
abbrev S1 : Shape := ⟨1, ![1]⟩
abbrev S1x1x1x1x1 : Shape := ⟨5, ![1, 1, 1, 1, 1]⟩
abbrev S2x64x16x4096 : Shape := ⟨4, ![2, 64, 16, 4096]⟩
abbrev S2x64x65536 : Shape := ⟨3, ![2, 64, 65536]⟩

abbrev nBuf : Space → Nat
  | .hbm => 162
  | .vmem => 0
  | .smem => 0
  | _ => 0

abbrev hbmTy0_0 (i : Nat) : BufTy := match i % 128 with
  | 0 => ⟨S2x16x4096x64, .f32⟩
  | 1 => ⟨S2x16x4096x64, .f32⟩
  | 2 => ⟨S2x16x4096x64, .f32⟩
  | 3 => ⟨S64, .i32⟩
  | 4 => ⟨S2x16x4096x128, .f32⟩
  | 5 => ⟨S64x1, .i32⟩
  | 6 => ⟨S1x64, .i32⟩
  | 7 => ⟨S64x64, .i32⟩
  | 8 => ⟨S64x64, .i32⟩
  | 9 => ⟨S64x64, .i32⟩
  | 10 => ⟨S64x64x1, .i32⟩
  | 11 => ⟨S2x16x4096x64x64, .f32⟩
  | 12 => ⟨S2x16x4096x1x64, .f32⟩
  | 13 => ⟨S2x16x4096x64x64, .f32⟩
  | 14 => ⟨S2x16x4096x64x64, .f32⟩
  | 15 => ⟨S_, .f32⟩
  | 16 => ⟨S2x16x4096x64, .f32⟩
  | 17 => ⟨S2x16x4096x4, .f32⟩
  | 18 => ⟨S2x16x4096x4, .i32⟩
  | 19 => ⟨S_, .f32⟩
  | 20 => ⟨S2x16x4096, .f32⟩
  | 21 => ⟨S_, .f32⟩
  | 22 => ⟨S2x16x4096, .f32⟩
  | 23 => ⟨S2x16x4096, .f32⟩
  | 24 => ⟨S2x16x4096x1, .f32⟩
  | 25 => ⟨S2x16x4096x4, .f32⟩
  | 26 => ⟨S2x16x4096x4, .f32⟩
  | 27 => ⟨S2x16x4096x4, .f32⟩
  | 28 => ⟨S_, .f32⟩
  | 29 => ⟨S2x16x4096, .f32⟩
  | 30 => ⟨S2x16x4096x1, .f32⟩
  | 31 => ⟨S2x16x4096x4, .f32⟩
  | 32 => ⟨S2x16x4096x4, .f32⟩
  | 33 => ⟨S2x16x4096x128, .f32⟩
  | 34 => ⟨S_, .f32⟩
  | 35 => ⟨S2x16x4096x64, .f32⟩
  | 36 => ⟨S1x1x1x64, .i32⟩
  | 37 => ⟨S2x16x4096x1, .i32⟩
  | 38 => ⟨S2x16x4096x64, .i32⟩
  | 39 => ⟨S2x16x4096x64, .i32⟩
  | 40 => ⟨S2x16x4096x64, .i32⟩
  | 41 => ⟨S_, .i32⟩
  | 42 => ⟨S2x16x4096x64, .i32⟩
  | 43 => ⟨S2x16x4096x64, .i1⟩
  | 44 => ⟨S_, .i32⟩
  | 45 => ⟨S2x16x4096x64, .i32⟩
  | 46 => ⟨S2x16x4096x64, .i32⟩
  | 47 => ⟨S2x16x4096x64, .i32⟩
  | 48 => ⟨S2x16x4096x64x1, .i32⟩
  | 49 => ⟨S1, .i32⟩
  | 50 => ⟨S_, .i32⟩
  | 51 => ⟨S2x16x4096x64x1, .i32⟩
  | 52 => ⟨S2x16x4096x64x1, .i1⟩
  | 53 => ⟨S1x1x1x1x1, .i32⟩
  | 54 => ⟨S2x16x4096x64x1, .i32⟩
  | 55 => ⟨S2x16x4096x64x1, .i1⟩
  | 56 => ⟨S2x16x4096x64x1, .i1⟩
  | 57 => ⟨S_, .i1⟩
  | 58 => ⟨S2x16x4096x64, .i1⟩
  | 59 => ⟨S2x16x4096x64, .f32⟩
  | 60 => ⟨S_, .f32⟩
  | 61 => ⟨S2x16x4096x64, .f32⟩
  | 62 => ⟨S2x16x4096x64, .f32⟩
  | 63 => ⟨S2x16x4096x1, .f32⟩
  | 64 => ⟨S2x16x4096x64, .f32⟩
  | 65 => ⟨S2x16x4096x64, .f32⟩
  | 66 => ⟨S2x16x4096x64, .f32⟩
  | 67 => ⟨S1x1x1x64, .i32⟩
  | 68 => ⟨S2x16x4096x1, .i32⟩
  | 69 => ⟨S2x16x4096x64, .i32⟩
  | 70 => ⟨S2x16x4096x64, .i32⟩
  | 71 => ⟨S2x16x4096x64, .i32⟩
  | 72 => ⟨S_, .i32⟩
  | 73 => ⟨S2x16x4096x64, .i32⟩
  | 74 => ⟨S2x16x4096x64, .i1⟩
  | 75 => ⟨S_, .i32⟩
  | 76 => ⟨S2x16x4096x64, .i32⟩
  | 77 => ⟨S2x16x4096x64, .i32⟩
  | 78 => ⟨S2x16x4096x64, .i32⟩
  | 79 => ⟨S2x16x4096x64x1, .i32⟩
  | 80 => ⟨S1, .i32⟩
  | 81 => ⟨S_, .i32⟩
  | 82 => ⟨S2x16x4096x64x1, .i32⟩
  | 83 => ⟨S2x16x4096x64x1, .i1⟩
  | 84 => ⟨S1x1x1x1x1, .i32⟩
  | 85 => ⟨S2x16x4096x64x1, .i32⟩
  | 86 => ⟨S2x16x4096x64x1, .i1⟩
  | 87 => ⟨S2x16x4096x64x1, .i1⟩
  | 88 => ⟨S_, .i1⟩
  | 89 => ⟨S2x16x4096x64, .i1⟩
  | 90 => ⟨S2x16x4096x64, .f32⟩
  | 91 => ⟨S_, .f32⟩
  | 92 => ⟨S2x16x4096x64, .f32⟩
  | 93 => ⟨S2x16x4096x64, .f32⟩
  | 94 => ⟨S2x16x4096x1, .f32⟩
  | 95 => ⟨S2x16x4096x64, .f32⟩
  | 96 => ⟨S2x16x4096x64, .f32⟩
  | 97 => ⟨S2x16x4096x64, .f32⟩
  | 98 => ⟨S1x1x1x64, .i32⟩
  | 99 => ⟨S2x16x4096x1, .i32⟩
  | 100 => ⟨S2x16x4096x64, .i32⟩
  | 101 => ⟨S2x16x4096x64, .i32⟩
  | 102 => ⟨S2x16x4096x64, .i32⟩
  | 103 => ⟨S_, .i32⟩
  | 104 => ⟨S2x16x4096x64, .i32⟩
  | 105 => ⟨S2x16x4096x64, .i1⟩
  | 106 => ⟨S_, .i32⟩
  | 107 => ⟨S2x16x4096x64, .i32⟩
  | 108 => ⟨S2x16x4096x64, .i32⟩
  | 109 => ⟨S2x16x4096x64, .i32⟩
  | 110 => ⟨S2x16x4096x64x1, .i32⟩
  | 111 => ⟨S1, .i32⟩
  | 112 => ⟨S_, .i32⟩
  | 113 => ⟨S2x16x4096x64x1, .i32⟩
  | 114 => ⟨S2x16x4096x64x1, .i1⟩
  | 115 => ⟨S1x1x1x1x1, .i32⟩
  | 116 => ⟨S2x16x4096x64x1, .i32⟩
  | 117 => ⟨S2x16x4096x64x1, .i1⟩
  | 118 => ⟨S2x16x4096x64x1, .i1⟩
  | 119 => ⟨S_, .i1⟩
  | 120 => ⟨S2x16x4096x64, .i1⟩
  | 121 => ⟨S2x16x4096x64, .f32⟩
  | 122 => ⟨S_, .f32⟩
  | 123 => ⟨S2x16x4096x64, .f32⟩
  | 124 => ⟨S2x16x4096x64, .f32⟩
  | 125 => ⟨S2x16x4096x1, .f32⟩
  | 126 => ⟨S2x16x4096x64, .f32⟩
  | 127 => ⟨S2x16x4096x64, .f32⟩
  | _ => ⟨S2x16x4096x64, .f32⟩

abbrev hbmTy0_1 (i : Nat) : BufTy := match i % 128 with
  | 0 => ⟨S2x16x4096x64, .f32⟩
  | 1 => ⟨S1x1x1x64, .i32⟩
  | 2 => ⟨S2x16x4096x1, .i32⟩
  | 3 => ⟨S2x16x4096x64, .i32⟩
  | 4 => ⟨S2x16x4096x64, .i32⟩
  | 5 => ⟨S2x16x4096x64, .i32⟩
  | 6 => ⟨S_, .i32⟩
  | 7 => ⟨S2x16x4096x64, .i32⟩
  | 8 => ⟨S2x16x4096x64, .i1⟩
  | 9 => ⟨S_, .i32⟩
  | 10 => ⟨S2x16x4096x64, .i32⟩
  | 11 => ⟨S2x16x4096x64, .i32⟩
  | 12 => ⟨S2x16x4096x64, .i32⟩
  | 13 => ⟨S2x16x4096x64x1, .i32⟩
  | 14 => ⟨S1, .i32⟩
  | 15 => ⟨S_, .i32⟩
  | 16 => ⟨S2x16x4096x64x1, .i32⟩
  | 17 => ⟨S2x16x4096x64x1, .i1⟩
  | 18 => ⟨S1x1x1x1x1, .i32⟩
  | 19 => ⟨S2x16x4096x64x1, .i32⟩
  | 20 => ⟨S2x16x4096x64x1, .i1⟩
  | 21 => ⟨S2x16x4096x64x1, .i1⟩
  | 22 => ⟨S_, .i1⟩
  | 23 => ⟨S2x16x4096x64, .i1⟩
  | 24 => ⟨S2x16x4096x64, .f32⟩
  | 25 => ⟨S_, .f32⟩
  | 26 => ⟨S2x16x4096x64, .f32⟩
  | 27 => ⟨S2x16x4096x64, .f32⟩
  | 28 => ⟨S2x16x4096x1, .f32⟩
  | 29 => ⟨S2x16x4096x64, .f32⟩
  | 30 => ⟨S2x16x4096x64, .f32⟩
  | 31 => ⟨S2x16x4096x64, .f32⟩
  | 32 => ⟨S2x64x16x4096, .f32⟩
  | 33 => ⟨S2x64x65536, .f32⟩
  | _ => ⟨S2x16x4096x64, .f32⟩

abbrev hbmTy (i : Nat) : BufTy := match i / 128 with
  | 0 => hbmTy0_0 i
  | 1 => hbmTy0_1 i
  | _ => ⟨S2x16x4096x64, .f32⟩

abbrev bufTy : (tb : Table) → Fin (tcTables nBuf tb) → BufTy
  | .hbm, ⟨i, _⟩ => hbmTy i
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_cst : Ref sig .tc := ⟨.hbm, 122, rfl⟩
abbrev main_call3_v14 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_call4_c : Ref sig .tc := ⟨.hbm, 134, rfl⟩
abbrev main_call4_v0 : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_c_1 : Ref sig .tc := ⟨.hbm, 142, rfl⟩
abbrev main_call4_c_2 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_c_3 : Ref sig .tc := ⟨.hbm, 150, rfl⟩
abbrev main_call4_v12 : Ref sig .tc := ⟨.hbm, 151, rfl⟩
abbrev main_call4_v13 : Ref sig .tc := ⟨.hbm, 152, rfl⟩
abbrev main_call4_cst : Ref sig .tc := ⟨.hbm, 153, rfl⟩
abbrev main_call4_v14 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩

abbrev nD : Nat := 1
abbrev τ : Topo := Topo.v7x

variable {F : FTy → Type} [FloatOps F]
-- ==== Proof.Dft.lean ====
/- The discrete Fourier transform of length 64 over the reals, written with cosines and sines, inverts to the circular
   cross-correlation. Pure mathematics: nothing here mentions a program. -/
module

public import Mathlib.Analysis.SpecialFunctions.Trigonometric.Complex
public import Mathlib.Analysis.SpecialFunctions.Complex.Arg
public import Mathlib.Algebra.Field.GeomSum

@[expose] public section

noncomputable section

namespace Corr

open Finset

/-- The angle of the table entry at `(x, y)`: the product reduced modulo 64, in 64ths of a turn. -/
def angle (x y : Fin 64) : ℝ := 2 * Real.pi * ((x.val * y.val % 64 : ℕ) : ℝ) / 64

/-- The cosine table. -/
def C (x y : Fin 64) : ℝ := Real.cos (angle x y)

/-- The (negated) sine table. -/
def S (x y : Fin 64) : ℝ := -Real.sin (angle x y)

/-- The angle of `n` 64ths of a turn. -/
def turn (n : ℤ) : ℝ := (n : ℝ) * (2 * Real.pi) / 64

/-- Reducing the product modulo 64 changes the angle by whole turns. -/
theorem angle_eq (x y : Fin 64) :
    angle x y = turn ((x.val : ℤ) * y.val) - ((x.val * y.val / 64 : ℕ) : ℤ) * (2 * Real.pi) := by
  have h : x.val * y.val = 64 * (x.val * y.val / 64) + x.val * y.val % 64 := (Nat.div_add_mod _ _).symm
  have h' : ((x.val : ℝ) * y.val) = 64 * ((x.val * y.val / 64 : ℕ) : ℝ) + ((x.val * y.val % 64 : ℕ) : ℝ) := by exact_mod_cast h
  unfold angle turn
  rw [Int.cast_natCast, Int.cast_mul, Int.cast_natCast, Int.cast_natCast, h']
  ring

theorem C_eq (x y : Fin 64) : C x y = Real.cos (turn ((x.val : ℤ) * y.val)) := by
  unfold C; rw [angle_eq, Real.cos_sub_int_mul_two_pi]

theorem S_eq (x y : Fin 64) : S x y = -Real.sin (turn ((x.val : ℤ) * y.val)) := by
  unfold S; rw [angle_eq, Real.sin_sub_int_mul_two_pi]

/-- The cosines of the multiples of `m` 64ths of a turn sum to 64 where 64 divides `m` and cancel elsewhere. -/
theorem sum_cos (m : ℤ) :
    ∑ f : Fin 64, Real.cos (turn (m * f.val)) = if (64 : ℤ) ∣ m then 64 else 0 := by
  set z : ℂ := Complex.exp ((turn m : ℝ) * Complex.I) with hz
  have hpow : ∀ n : ℕ, z ^ n = Complex.exp ((turn (m * n) : ℝ) * Complex.I) := fun n => by
    rw [hz, ← Complex.exp_nat_mul]
    congr 1
    unfold turn
    push_cast
    ring
  have hre : ∀ n : ℕ, (z ^ n).re = Real.cos (turn (m * n)) := fun n => by
    rw [hpow, Complex.exp_ofReal_mul_I_re]
  have h64 : z ^ 64 = 1 := by
    rw [hpow, show ((turn (m * (64 : ℕ)) : ℝ) : ℂ) * Complex.I = m * (2 * Real.pi * Complex.I) by
      unfold turn; push_cast; ring, Complex.exp_int_mul_two_pi_mul_I]
  have hsum : ∑ f : Fin 64, Real.cos (turn (m * f.val)) = (∑ n ∈ range 64, z ^ n).re := by
    rw [Complex.re_sum, Finset.sum_range fun n => (z ^ n).re]
    exact Finset.sum_congr rfl fun f _ => (hre f.val).symm
  rw [hsum]
  by_cases hm : (64 : ℤ) ∣ m
  · obtain ⟨k, rfl⟩ := hm
    have h1 : z = 1 := by
      rw [hz, show ((turn (64 * k) : ℝ) : ℂ) * Complex.I = k * (2 * Real.pi * Complex.I) by
        unfold turn; push_cast; ring, Complex.exp_int_mul_two_pi_mul_I]
    rw [if_pos ⟨k, rfl⟩, h1]
    simp
  · have h1 : z ≠ 1 := fun h => by
      rw [hz, Complex.exp_eq_one_iff] at h
      obtain ⟨k, hk⟩ := h
      apply hm
      refine ⟨k, ?_⟩
      have hpi : (2 * (Real.pi : ℂ) * Complex.I) ≠ 0 := Complex.two_pi_I_ne_zero
      have h2 : ((m : ℂ) / 64) * (2 * (Real.pi : ℂ) * Complex.I) = k * (2 * (Real.pi : ℂ) * Complex.I) := by
        rw [← hk]; unfold turn; push_cast; ring
      have h3 := mul_right_cancel₀ hpi h2
      have h4 : (m : ℂ) = 64 * k := by rw [← h3]; ring
      exact_mod_cast h4
    rw [if_neg hm, geom_sum_eq h1, h64]
    simp

/-- The real and imaginary parts of the transform of `x`. -/
def re (x : Fin 64 → ℝ) (f : Fin 64) : ℝ := ∑ e, x e * C e f
def im (x : Fin 64 → ℝ) (f : Fin 64) : ℝ := ∑ e, x e * S e f

/-- The product of one spectrum by the other's conjugate, inverted (up to the factor 64), as one double sum. -/
theorem term_eq (q k : Fin 64 → ℝ) (f t : Fin 64) :
    (re q f * re k f + im q f * im k f) * C f t + (im q f * re k f - re q f * im k f) * S f t
      = ∑ a, ∑ b, q a * k b * Real.cos (turn (((a.val : ℤ) - b.val - t.val) * f.val)) := by
  have hcos : ∀ a b : Fin 64, Real.cos (turn (((a.val : ℤ) - b.val - t.val) * f.val))
      = (C a f * C b f + S a f * S b f) * C f t + (S a f * C b f - C a f * S b f) * S f t := fun a b => by
    rw [show turn (((a.val : ℤ) - b.val - t.val) * f.val)
        = (turn ((a.val : ℤ) * f.val) - turn ((b.val : ℤ) * f.val)) - turn ((f.val : ℤ) * t.val) by
      unfold turn; push_cast; ring]
    rw [Real.cos_sub, Real.cos_sub, Real.sin_sub]
    simp only [C_eq, S_eq]
    ring
  unfold re im
  simp only [Finset.sum_mul_sum]
  rw [← Finset.sum_add_distrib, ← Finset.sum_sub_distrib, Finset.sum_mul, Finset.sum_mul, ← Finset.sum_add_distrib]
  refine Finset.sum_congr rfl fun a _ => ?_
  rw [← Finset.sum_add_distrib, ← Finset.sum_sub_distrib, Finset.sum_mul, Finset.sum_mul, ← Finset.sum_add_distrib]
  refine Finset.sum_congr rfl fun b _ => ?_
  rw [hcos]
  ring

/-- 64 divides `a - b - t` exactly where `a` is `b + t` around the circle. -/
theorem dvd_iff (a b t : Fin 64) : ((64 : ℤ) ∣ (a.val : ℤ) - b.val - t.val) ↔ a = b + t := by
  rw [Fin.ext_iff, Fin.val_add]
  have := a.isLt; have := b.isLt; have := t.isLt
  omega

/-- The correlation theorem: the kernel's cosine and sine sums give the circular cross-correlation. -/
theorem correlation (q k : Fin 64 → ℝ) (t : Fin 64) :
    (∑ f, ((re q f * re k f + im q f * im k f) * C f t + (im q f * re k f - re q f * im k f) * S f t)) * (1 / 64)
      = ∑ e, q (e + t) * k e := by
  have h1 : (∑ f, ((re q f * re k f + im q f * im k f) * C f t + (im q f * re k f - re q f * im k f) * S f t))
      = ∑ a, ∑ b, q a * k b * (if a = b + t then 64 else 0) := by
    rw [Finset.sum_congr rfl fun f _ => term_eq q k f t, Finset.sum_comm]
    refine Finset.sum_congr rfl fun a _ => ?_
    rw [Finset.sum_comm]
    refine Finset.sum_congr rfl fun b _ => ?_
    rw [← Finset.mul_sum, sum_cos]
    simp only [dvd_iff]
  rw [h1, Finset.sum_comm, Finset.sum_mul]
  refine Finset.sum_congr rfl fun b _ => ?_
  rw [Finset.sum_eq_single (b + t) (fun a _ h => by rw [if_neg h, mul_zero]) (fun h => absurd (mem_univ _) h), if_pos rfl]
  ring

end Corr

end
-- ==== Proof.Pick.lean ====
/- Taking the greatest entry of a row of 64 again and again, lowest position first among equal ones, masking what was
   taken, is the start of the stable descending sort of the row. Pure mathematics on rows of extended reals. -/
module

public import Idealize.ShloMosaic.Lib.SortPrefix
public import Idealize.ShloMosaic.PureOps.Ideal.Laws

@[expose] public section

noncomputable section

namespace Corr

open Finset Idealize.ShloMosaic

/-- The lowest position holding a greatest entry exists. -/
theorem exists_best (x : Fin 64 → EReal) : ∃ i, (∀ k, x k ≤ x i) ∧ ∀ j, x j = x i → i ≤ j := by
  classical
  obtain ⟨m, -, hm⟩ := Finset.exists_max_image (univ : Finset (Fin 64)) x ⟨0, mem_univ _⟩
  have hne : (univ.filter fun j => x j = x m).Nonempty := ⟨m, by simp⟩
  have hi := Finset.min'_mem _ hne
  rw [Finset.mem_filter] at hi
  refine ⟨(univ.filter fun j => x j = x m).min' hne, fun k => ?_, fun j hj => Finset.min'_le _ j ?_⟩
  · rw [hi.2]; exact hm k (mem_univ k)
  · rw [Finset.mem_filter]; exact ⟨mem_univ j, hj.trans hi.2⟩

/-- The lowest position holding a greatest entry. -/
def best (x : Fin 64 → EReal) : Fin 64 := (exists_best x).choose

theorem le_best (x : Fin 64 → EReal) (k : Fin 64) : x k ≤ x (best x) := (exists_best x).choose_spec.1 k

theorem best_le (x : Fin 64 → EReal) (j : Fin 64) (h : x j = x (best x)) : best x ≤ j := (exists_best x).choose_spec.2 j h

/-- The maximum of a row, folded from the least extended real, is the entry at `best`. -/
theorem fold_max (x : Fin 64 → EReal) : (univ : Finset (Fin 64)).fold max ⊥ x = x (best x) := by
  apply le_antisymm
  · rw [Finset.fold_max_le]; exact ⟨bot_le, fun k _ => le_best x k⟩
  · rw [Finset.le_fold_max]; exact Or.inr ⟨best x, mem_univ _, le_rfl⟩

/-- A fold of the signed minimum is below every term, and is one of the terms or the start. -/
theorem fold_minsi (s : Finset (Fin 64)) (acc : BitVec 32) (g : Fin 64 → BitVec 32) :
    (∀ j ∈ s, (s.fold IntOp.minsi acc g).toInt ≤ (g j).toInt) ∧
      (s.fold IntOp.minsi acc g).toInt ≤ acc.toInt ∧
      (s.fold IntOp.minsi acc g = acc ∨ ∃ j ∈ s, s.fold IntOp.minsi acc g = g j) := by
  classical
  induction s using Finset.induction_on with
  | empty => simp
  | insert a s ha ih =>
    obtain ⟨h1, h0, h2⟩ := ih
    rw [Finset.fold_insert ha]
    generalize s.fold IntOp.minsi acc g = r at h1 h0 h2 ⊢
    by_cases hlt : (g a).toInt < r.toInt
    · have e : IntOp.minsi (g a) r = g a := by simp [IntOp.minsi, BitVec.slt, hlt]
      rw [e]
      refine ⟨fun j hj => ?_, by omega, Or.inr ⟨a, by simp, rfl⟩⟩
      rcases Finset.mem_insert.mp hj with rfl | hj
      · exact le_rfl
      · have := h1 j hj; omega
    · have e : IntOp.minsi (g a) r = r := by simp [IntOp.minsi, BitVec.slt, hlt]
      rw [e]
      refine ⟨fun j hj => ?_, h0, ?_⟩
      · rcases Finset.mem_insert.mp hj with rfl | hj
        · omega
        · exact h1 j hj
      · rcases h2 with h2 | ⟨j, hj, h2⟩
        · exact Or.inl h2
        · exact Or.inr ⟨j, Finset.mem_insert_of_mem hj, h2⟩

theorem toInt_ofNat (n : ℕ) (h : n < 2 ^ 31) : (BitVec.ofNat 32 n).toInt = n := by
  rw [BitVec.toInt_eq_toNat_of_lt] <;> rw [BitVec.toNat_ofNat] <;> omega

/-- The least position (as a word) among those holding the greatest entry, 64 standing for the others, is `best`. -/
theorem fold_position (x : Fin 64 → EReal) (acc : BitVec 32) (hacc : acc = 2147483647#32) :
    (univ : Finset (Fin 64)).fold IntOp.minsi acc (fun j => if x j = x (best x) then BitVec.ofNat 32 j.val else 64#32)
      = BitVec.ofNat 32 (best x).val := by
  subst hacc
  obtain ⟨h1, -, h2⟩ := fold_minsi univ 2147483647#32 (fun j => if x j = x (best x) then BitVec.ofNat 32 j.val else 64#32)
  have hb := h1 (best x) (mem_univ _)
  simp only [if_true] at hb
  rw [toInt_ofNat _ (by omega)] at hb
  have hlt := (best x).isLt
  rcases h2 with h2 | ⟨j, -, h2⟩
  · rw [h2] at hb
    have : (2147483647#32 : BitVec 32).toInt = 2147483647 := by decide
    omega
  · rw [h2] at hb ⊢
    by_cases hj : x j = x (best x)
    · rw [if_pos hj] at hb ⊢
      rw [toInt_ofNat _ (by omega)] at hb
      have := Fin.le_def.mp (best_le x j hj)
      have e : j = best x := Fin.ext (by omega)
      rw [e]
    · rw [if_neg hj] at hb
      have : (64#32 : BitVec 32).toInt = 64 := by decide
      omega

/-- The row with its best entry masked by the least extended real. -/
def mask (x : Fin 64 → EReal) (j : Fin 64) : EReal := if j = best x then ⊥ else x j

/-- The row after `n` rounds. -/
def rounds (x : Fin 64 → EReal) : ℕ → Fin 64 → EReal
  | 0 => x
  | n + 1 => mask (rounds x n)

/-- The position taken in round `n`. -/
def taken (x : Fin 64 → EReal) (n : ℕ) : Fin 64 := best (rounds x n)

/-- What the row holds after `n` rounds. -/
theorem rounds_apply (x : Fin 64 → EReal) (n : ℕ) (j : Fin 64) :
    ((∃ m < n, taken x m = j) → rounds x n j = ⊥) ∧ ((∀ m < n, taken x m ≠ j) → rounds x n j = x j) := by
  induction n with
  | zero => exact ⟨fun ⟨m, hm, _⟩ => absurd hm (Nat.not_lt_zero m), fun _ => rfl⟩
  | succ n ih =>
    have e : rounds x (n + 1) j = if j = taken x n then ⊥ else rounds x n j := rfl
    rw [e]
    constructor
    · rintro ⟨m, hm, hmj⟩
      by_cases hj : j = taken x n
      · rw [if_pos hj]
      · rw [if_neg hj]
        exact ih.1 ⟨m, lt_of_le_of_ne (Nat.lt_succ_iff.mp hm) (fun h => hj (by rw [← hmj, h])), hmj⟩
    · intro h
      rw [if_neg fun hj => h n (Nat.lt_succ_self n) hj.symm]
      exact ih.2 fun m hm => h m (Nat.lt_succ_of_lt hm)

/-- In a row with no least entry a round takes a position no earlier round took. -/
theorem taken_ne (x : Fin 64 → EReal) (hx : ∀ j, x j ≠ ⊥) (n : ℕ) (hn : n < 64) (m : ℕ) (hm : m < n) :
    taken x m ≠ taken x n := by
  classical
  intro h
  have hbot : rounds x n (taken x n) = ⊥ := (rounds_apply x n _).1 ⟨m, hm, h⟩
  have hcard : ((range n).image (taken x)).card < (univ : Finset (Fin 64)).card := by
    refine lt_of_le_of_lt Finset.card_image_le ?_
    simpa using hn
  obtain ⟨j, -, hj⟩ := Finset.exists_mem_notMem_of_card_lt_card hcard
  have hj' : rounds x n j = x j := (rounds_apply x n j).2 fun m hm e =>
    hj (Finset.mem_image.mpr ⟨m, Finset.mem_range.mpr hm, e⟩)
  have hle : rounds x n j ≤ rounds x n (taken x n) := le_best _ j
  rw [hbot, hj', le_bot_iff] at hle
  exact hx j hle

/-- A round's greatest entry is the row's own entry there. -/
theorem rounds_taken (x : Fin 64 → EReal) (hx : ∀ j, x j ≠ ⊥) (n : ℕ) (hn : n < 64) :
    rounds x n (taken x n) = x (taken x n) :=
  (rounds_apply x n _).2 fun m hm => taken_ne x hx n hn m hm

/-- Greater first, and the lower position first among equals. -/
def before (x : Fin 64 → EReal) (k k' : Fin 64) : Bool :=
  decide (x k' < x k) || (decide (x k = x k') && decide (k < k'))

theorem before_total (x : Fin 64 → EReal) : StrictTotalBefore (before x) :=
  StrictTotalBefore.of_key_then_position (fun a b : EReal => decide (b < a)) x (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- A stable sort of positions in increasing order does not see how its comparison breaks ties by position. -/
theorem stableSort_tie {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_tie {n : ℕ} (R R' : Fin n → Fin n → Bool) (h : ∀ a b, a < b → R b a = R' b a) :
    sortedFrom R = sortedFrom R' := by
  funext k
  unfold sortedFrom
  rw [List.get_of_eq (show sortPositions n R = sortPositions n R' from
    stableSort_tie R R' h _ (List.pairwise_lt_finRange n))]
  rfl

/-- The first four positions of the stable descending sort are the ones the four rounds take. -/
theorem sortedFrom_eq_taken (x : Fin 64 → EReal) (hx : ∀ j, x j ≠ ⊥) (R : Fin 64 → Fin 64 → Bool)
    (hR : ∀ a b, R a b = decide (x b < x a)) (i : Fin 4) :
    sortedFrom R (i.castLE (by decide)) = taken x i.val := by
  have e : sortedFrom R = sortedFrom (before x) := by
    refine sortedFrom_tie _ _ fun a b hab => ?_
    have h : ¬ b < a := not_lt.mpr hab.le
    rw [hR]; unfold before; simp [h]
  have hne : ∀ i j : Fin 4, i < j → taken x i.val ≠ taken x j.val := fun i j h =>
    taken_ne x hx j.val (by omega) i.val h
  have hlow : ∀ (i : Fin 4) (p : Fin 64), (∀ j : Fin 4, j < i → taken x j.val ≠ p) → before x p (taken x i.val) = false := by
    intro i p hp
    have h1 : rounds x i.val p = x p := (rounds_apply x i.val p).2 fun m hm => hp ⟨m, by omega⟩ hm
    have h2 := rounds_taken x hx i.val (by omega)
    have h3 : x p ≤ x (taken x i.val) := by
      rw [← h1, ← h2]; exact le_best _ p
    have h4 : x p = x (taken x i.val) → taken x i.val ≤ p := fun h =>
      best_le _ p (by rw [h1]; exact h.trans h2.symm)
    unfold before
    simp only [Bool.or_eq_false_iff, Bool.and_eq_false_iff, decide_eq_false_iff_not, not_lt]
    refine ⟨h3, ?_⟩
    by_cases h : x p = x (taken x i.val)
    · exact Or.inr (h4 h)
    · exact Or.inl h
  rw [e]
  refine (before_total x).sortedFrom_eq_of_prefix (by decide) (fun i : Fin 4 => taken x i.val) ?_ ?_ ?_ i
  · intro i j hij
    rcases lt_trichotomy i j with h | h | h
    · exact absurd hij (hne i j h)
    · exact h
    · exact absurd hij.symm (hne j i h)
  · intro i j hij
    exact hlow i _ fun k hk => hne k j (lt_trans hk hij)
  · intro i p hp
    exact hlow i p fun j _ => hp j

end Corr

end
-- ==== Proof.Aggregate.lean ====
/- What both programs compute for one row of real numbers: the circular cross-correlation of the query row and the key row,
   the positions and softmax weights of its four greatest entries, and the weighted sum of the value row rotated by those
   positions. The kernel forms the weighted sum as one more cross-correlation: `corr_spike`. -/
module

public import proofs.«01_k».proof.Proof.Dft
public import proofs.«01_k».proof.Proof.Pick
public import Mathlib.Analysis.SpecialFunctions.Exp

@[expose] public section

noncomputable section

namespace Corr

/-- A sum of real numbers taken among the extended reals. -/
theorem coe_sum {n : ℕ} (f : Fin n → ℝ) : ∑ i, (f i : EReal) = ((∑ i, f i : ℝ) : EReal) := by
  induction n with
  | zero => simp
  | succ n ih => rw [Fin.sum_univ_castSucc, Fin.sum_univ_castSucc, ih, EReal.coe_add]

/-- The circular cross-correlation of two rows. -/
def corr (q k : Fin 64 → ℝ) (t : Fin 64) : ℝ := ∑ e, q (e + t) * k e

/-- The position taken in round `i` from a row of real numbers. -/
def pos (y : Fin 64 → ℝ) (i : Fin 4) : Fin 64 := taken (fun j => (y j : EReal)) i.val

/-- The exponential of the entry taken in round `i`, less the greatest. -/
def ex (y : Fin 64 → ℝ) (i : Fin 4) : ℝ := Real.exp (y (pos y i) - y (pos y 0))

/-- Round `i`'s softmax weight. -/
def weight (y : Fin 64 → ℝ) (i : Fin 4) : ℝ := ex y i / (ex y 0 + ex y 1 + ex y 2 + ex y 3)

theorem pos_ne (y : Fin 64 → ℝ) (i j : Fin 4) (h : i < j) : pos y i ≠ pos y j :=
  taken_ne _ (fun _ => EReal.coe_ne_bot _) j.val (by omega) i.val h

theorem rounds_pos (y : Fin 64 → ℝ) (i : Fin 4) :
    rounds (fun j => (y j : EReal)) i.val (taken (fun j => (y j : EReal)) i.val) = (y (pos y i) : EReal) :=
  rounds_taken _ (fun _ => EReal.coe_ne_bot _) i.val (by omega)

/-- The aggregated row: the value row rotated by each position taken, weighted. -/
def agg (y v : Fin 64 → ℝ) (t : Fin 64) : ℝ :=
  weight y 0 * v (t + pos y 0) + weight y 1 * v (t + pos y 1) + weight y 2 * v (t + pos y 2) + weight y 3 * v (t + pos y 3)

/-- The row that holds each weight at its position and zero elsewhere. -/
def spike (y : Fin 64 → ℝ) (j : Fin 64) : ℝ :=
  if j = pos y 3 then weight y 3 else if j = pos y 2 then weight y 2 else if j = pos y 1 then weight y 1
  else if j = pos y 0 then weight y 0 else 0

/-- Correlating the value row with the row of weights aggregates the rotated value rows. -/
theorem corr_spike (y v : Fin 64 → ℝ) (t : Fin 64) : corr v (spike y) t = agg y v t := by
  have h : ∀ j, spike y j = (if j = pos y 0 then weight y 0 else 0) + (if j = pos y 1 then weight y 1 else 0)
      + (if j = pos y 2 then weight y 2 else 0) + (if j = pos y 3 then weight y 3 else 0) := by
    intro j
    unfold spike
    have h01 := pos_ne y 0 1 (by decide)
    have h02 := pos_ne y 0 2 (by decide)
    have h03 := pos_ne y 0 3 (by decide)
    have h12 := pos_ne y 1 2 (by decide)
    have h13 := pos_ne y 1 3 (by decide)
    have h23 := pos_ne y 2 3 (by decide)
    by_cases h3 : j = pos y 3
    · subst h3; simp [h03.symm, h13.symm, h23.symm]
    by_cases h2 : j = pos y 2
    · subst h2; simp [h02.symm, h12.symm, h3]
    by_cases h1 : j = pos y 1
    · subst h1; simp [h01.symm, h2, h3]
    simp [h1, h2, h3]
  unfold corr agg
  simp only [h, mul_add, Finset.sum_add_distrib, mul_ite, mul_zero, Finset.sum_ite_eq', Finset.mem_univ, if_true]
  simp only [add_comm t]
  ring

end Corr

end
-- ==== Proof.Spectrum.lean ====
/- One block's spectral product, read at an index: a block times the forward table, the two halves combined, the result
   times the inverse table. On blocks of real numbers this is the circular cross-correlation of the rows. -/
module

public import proofs.«01_k».proof.Proof.Gen.KernelIdeal.Skeleton
public import proofs.«01_k».proof.Proof.Aggregate
public import Idealize.ShloMosaic.Lib.MatmulPlain
public import Idealize.ShloMosaic.Lib.ValueIdx
public import Idealize.ShloMosaic.Lib.Pipeline.Value

@[expose] public section

noncomputable section

namespace Cert.KernelIdeal.Spectrum

open Corr (corr coe_sum)
open Cert.KernelIdeal Cert.KernelIdeal.Gen Idealize.ShloMosaic Idealize.ShloMosaic.ValueIdx

/-- The word of one sixty-fourth. -/
theorem ofBits_64th : Ideal.ofBits .f32 0x3C800000#32 = ((1 / 64 : ℝ) : EReal) := by
  simp [Ideal.ofBits, Ideal.ieee, -EReal.coe_mul]; norm_num

/-- The column of the table holding frequency `f`'s cosine, and the one holding its sine. -/
def lo (f : Fin 64) : Fin 128 := ⟨f.val, by omega⟩
def hi (f : Fin 64) : Fin 128 := ⟨64 + f.val, by omega⟩

theorem sum_lo_hi (g : Fin 128 → EReal) : ∑ c, g c = ∑ f, g (lo f) + ∑ f, g (hi f) :=
  Fin.sum_univ_add (a := 64) (b := 64) g

/-- The forward table: cosines on the left, negated sines on the right. -/
def IsForward (w : FVec Ideal S64x128 .f32) : Prop :=
  ∀ e f, w (ix2 e (lo f)) = (Corr.C e f : EReal) ∧ w (ix2 e (hi f)) = (Corr.S e f : EReal)

/-- The inverse table: cosines on top, negated sines below. -/
def IsInverse (w : FVec Ideal S128x64 .f32) : Prop :=
  ∀ f t, w (ix2 (lo f) t) = (Corr.C f t : EReal) ∧ w (ix2 (hi f) t) = (Corr.S f t : EReal)

/-- Row `r` of the block `x` is the real row `q`. -/
def IsRow (x : FVec Ideal S512x64 .f32) (r : Fin 512) (q : Fin 64 → ℝ) : Prop := ∀ e, x (ix2 r e) = (q e : EReal)

theorem forward_apply (x : FVec Ideal S512x64 .f32) (w : FVec Ideal S64x128 .f32) (r : Fin 512) (c : Fin 128) :
    matmul dot_S512x64_S64x128_S512x128_1_0_0_1_n_n (some .fp32) x w (constant (F := Ideal) S512x128 .f32 0x00000000#32) (ix2 r c)
      = ∑ e : Fin 64, x (ix2 r e) * w (ix2 e c) := by
  refine (Ideal.matmul_plain_apply (M := 512) (K := 64) (N := 128) (some .fp32) x w _ r c).trans ?_
  rw [constant_apply, Ideal.ofBits_zero_f32, zero_add]

theorem backward_apply (x : FVec Ideal S512x128 .f32) (w : FVec Ideal S128x64 .f32) (r : Fin 512) (c : Fin 64) :
    matmul dot_S512x128_S128x64_S512x64_1_0_0_1_n_n (some .fp32) x w (constant (F := Ideal) S512x64 .f32 0x00000000#32) (ix2 r c)
      = ∑ e : Fin 128, x (ix2 r e) * w (ix2 e c) := by
  refine (Ideal.matmul_plain_apply (M := 512) (K := 128) (N := 64) (some .fp32) x w _ r c).trans ?_
  rw [constant_apply, Ideal.ofBits_zero_f32, zero_add]

/-- The left half of a row's transform holds the real parts. -/
theorem left_apply {x : FVec Ideal S512x64 .f32} {w : FVec Ideal S64x128 .f32} (hw : IsForward w) {r : Fin 512} {q : Fin 64 → ℝ}
    (hx : IsRow x r q) :
    IsRow (extractStridedSlice S512x64 ![0, 0]
      (matmul dot_S512x64_S64x128_S512x128_1_0_0_1_n_n (some .fp32) x w (constant (F := Ideal) S512x128 .f32 0x00000000#32))
      slices_S512x128_o0_0_S512x64) r (Corr.re q) := by
  intro f
  rw [extractStridedSlice_apply _ _ _ (ix2 r f) (ix2 r (lo f)) (fun a => match a with
    | ⟨0, _⟩ => (Nat.zero_add _).symm
    | ⟨1, _⟩ => (Nat.zero_add _).symm), forward_apply]
  simp only [hx _, (hw _ _).1, ← EReal.coe_mul]
  exact coe_sum _

/-- The right half holds the imaginary parts. -/
theorem right_apply {x : FVec Ideal S512x64 .f32} {w : FVec Ideal S64x128 .f32} (hw : IsForward w) {r : Fin 512} {q : Fin 64 → ℝ}
    (hx : IsRow x r q) :
    IsRow (extractStridedSlice S512x64 ![0, 64]
      (matmul dot_S512x64_S64x128_S512x128_1_0_0_1_n_n (some .fp32) x w (constant (F := Ideal) S512x128 .f32 0x00000000#32))
      slices_S512x128_o0_64_S512x64) r (Corr.im q) := by
  intro f
  rw [extractStridedSlice_apply _ _ _ (ix2 r f) (ix2 r (hi f)) (fun a => match a with
    | ⟨0, _⟩ => (Nat.zero_add _).symm
    | ⟨1, _⟩ => rfl), forward_apply]
  simp only [hx _, (hw _ _).2, ← EReal.coe_mul]
  exact coe_sum _

/-- Two spectra side by side times the inverse table, scaled by one sixty-fourth. -/
theorem inverse_apply {p p' : FVec Ideal S512x64 .f32} {w : FVec Ideal S128x64 .f32} (hw : IsInverse w) {r : Fin 512}
    {a b : Fin 64 → ℝ} (hp : IsRow p r a) (hp' : IsRow p' r b) :
    IsRow (mulf (matmul dot_S512x128_S128x64_S512x64_1_0_0_1_n_n (some .fp32)
        (concatenate S512x128 1 [⟨S512x64, p⟩, ⟨S512x64, p'⟩] concatenates_S512x64_S512x64_S512x128_d1) w
        (constant (F := Ideal) S512x64 .f32 0x00000000#32))
      (broadcast S512x64 (Scalar.ofBits (F := Ideal) .f32 0x3C800000#32))) r
      (fun t => (∑ f, (a f * Corr.C f t + b f * Corr.S f t)) * (1 / 64)) := by
  intro t
  have hl : ∀ f, concatenate S512x128 1 [⟨S512x64, p⟩, ⟨S512x64, p'⟩] concatenates_S512x64_S512x64_S512x128_d1 (ix2 r (lo f))
      = (a f : EReal) := fun f => by
    rw [concatenate_pair_apply_left 1 p p' concatenates_S512x64_S512x64_S512x128_d1 (ix2 r (lo f)) rfl (ix2 r f) (fun b => match b with
      | ⟨0, _⟩ => rfl
      | ⟨1, _⟩ => rfl)]
    exact hp f
  have hr : ∀ f, concatenate S512x128 1 [⟨S512x64, p⟩, ⟨S512x64, p'⟩] concatenates_S512x64_S512x64_S512x128_d1 (ix2 r (hi f))
      = (b f : EReal) := fun f => by
    rw [concatenate_pair_apply_right 1 p p' concatenates_S512x64_S512x64_S512x128_d1 (ix2 r (hi f)) rfl rfl (ix2 r f) (fun b => match b with
      | ⟨0, _⟩ => fun _ => rfl
      | ⟨1, _⟩ => fun h => absurd rfl h) (Nat.add_comm _ _)]
    exact hp' f
  rw [mulf_apply, backward_apply, sum_lo_hi]
  simp only [hl, hr, (hw _ _).1, (hw _ _).2, ← EReal.coe_mul]
  rw [coe_sum, coe_sum, broadcast_apply]
  show _ * Ideal.ofBits .f32 0x3C800000#32 = _
  rw [ofBits_64th, ← EReal.coe_add, ← EReal.coe_mul, Finset.sum_add_distrib]

/-- A block with its two leading unit axes dropped. -/
theorem drop_units_apply (x : FVec Ideal S1x1x512x64 .f32) (r : Fin 512) (e : Fin 64) :
    shapeCast S512x64 x shapeCasts_S1x1x512x64_S512x64 (ix2 r e) = x (ix4 0 0 r e) :=
  shapeCast_apply x _ _ _ (by
    rw [Shape.rowMajor_val_four, Shape.rowMajor_val_two]
    simp)

/-- The correlation block of the kernel: each of its rows is the cross-correlation of the two blocks' rows. -/
theorem pay5_row (v0 v2 : Vec Ideal S1x1x512x64 .f32) (v6 : Vec Ideal S64x128 .f32) (v8 : Vec Ideal S128x64 .f32)
    (h6 : IsForward v6) (h8 : IsInverse v8) (r : Fin 512) (q k : Fin 64 → ℝ)
    (hq : ∀ e, v0 (ix4 0 0 r e) = (q e : EReal)) (hk : ∀ e, v2 (ix4 0 0 r e) = (k e : EReal)) :
    IsRow (k0_pay5 v0 v2 v6 v8) r (corr q k) := by
  have e6 : k0_pay3 v6 = v6 := shapeCast_self _ _
  have e8 : k0_pay4 v8 = v8 := shapeCast_self _ _
  have hq' : IsRow (shapeCast S512x64 v0 shapeCasts_S1x1x512x64_S512x64) r q := fun e => (drop_units_apply v0 r e).trans (hq e)
  have hk' : IsRow (shapeCast S512x64 v2 shapeCasts_S1x1x512x64_S512x64) r k := fun e => (drop_units_apply v2 r e).trans (hk e)
  unfold k0_pay5
  rw [e6, e8]
  intro t
  refine (inverse_apply h8 (a := fun f => Corr.re q f * Corr.re k f + Corr.im q f * Corr.im k f)
    (b := fun f => Corr.im q f * Corr.re k f - Corr.re q f * Corr.im k f) (fun f => ?_) (fun f => ?_) t).trans ?_
  · rw [addf_apply, mulf_apply, mulf_apply, left_apply h6 hq' f, left_apply h6 hk' f, right_apply h6 hq' f, right_apply h6 hk' f]
    simp only [EReal.coe_add, EReal.coe_mul]
  · rw [subf_apply, mulf_apply, mulf_apply, left_apply h6 hq' f, left_apply h6 hk' f, right_apply h6 hq' f, right_apply h6 hk' f]
    simp only [EReal.coe_sub, EReal.coe_mul]
  · exact congrArg _ (Corr.correlation q k t)

end Cert.KernelIdeal.Spectrum

end
-- ==== Proof.Rounds.lean ====
/- The kernel's four selection rounds, read one row at a time: round `n` finds the best entry that is left, its position,
   and masks it. -/
module

public import proofs.«01_k».proof.Proof.Spectrum

@[expose] public section

noncomputable section

namespace Cert.KernelIdeal.Rounds

open Cert.KernelIdeal Cert.KernelIdeal.Gen Cert.KernelIdeal.Spectrum Idealize.ShloMosaic Idealize.ShloMosaic.ValueIdx
open Corr (best mask rounds taken)

/-- Row `r` of a block. -/
def row (x : FVec Ideal S512x64 .f32) (r : Fin 512) (j : Fin 64) : EReal := x (ix2 r j)

/-- A block holding in each column the column's number. -/
def IsIota (v : IVec S512x64 32) : Prop := ∀ r j, v (ix2 r j) = BitVec.ofNat 32 j.val

/-- The word of minus infinity. -/
theorem ofBits_bot : Ideal.ofBits .f32 0xFF800000#32 = ⊥ := by
  simp [Ideal.ofBits, Ideal.ieee]

/-- A column of 512 seen as a 512 by 1 block. -/
theorem column_apply {α : Type} (v : S512.Idx → α) (r : Fin 512) :
    shapeCast S512x1 v shapeCasts_S512_S512x1 (ix2 r 0) = v (ix1 r) :=
  shapeCast_apply v _ _ _ (by
    rw [Shape.rowMajor_val_one, Shape.rowMajor_val_two]
    simp)

/-- A 512 by 1 block spread over 64 columns. -/
theorem spread_apply {α : Type} (v : S512x1.Idx → α) (r : Fin 512) (j : Fin 64) :
    broadcastTo S512x64 v broadcasts_S512x1_S512x64 (ix2 r j) = v (ix2 r 0) :=
  broadcastTo_apply v broadcasts_S512x1_S512x64 (ix2 r j) (ix2 r 0) (fun a => match a with
    | ⟨0, _⟩ => rfl
    | ⟨1, _⟩ => rfl)

/-- The index a row reduction inserts. -/
theorem lift_eq (r : Fin 512) (j : Fin 64) : reduces_S512x64_S512.lift (ix1 r) j = ix2 r j := by
  funext a
  match a with
  | ⟨0, _⟩ => rfl
  | ⟨1, _⟩ => rfl

/-- The maximum of each row. -/
def rowmax (x : FVec Ideal S512x64 .f32) : FVec Ideal S512 .f32 :=
  multiReduction .maximumf [1] S512 x 0xFF800000#32 reduces_S512x64_S512 (.inl rfl) rfl

/-- The row maximum is the row's best entry. -/
theorem rowmax_apply (x : FVec Ideal S512x64 .f32) (r : Fin 512) :
    rowmax x (ix1 r) = row x r (best (row x r)) := by
  refine (Ideal.multiReduction_maximumf_single x _ reduces_S512x64_S512 (.inl rfl) rfl (ix1 r)).trans ?_
  have e : x ∘ reduces_S512x64_S512.lift (ix1 r) = row x r := funext fun j => congrArg x (lift_eq r j)
  rw [e, ← Corr.fold_max (row x r)]
  show Finset.fold max (Ideal.ofBits .f32 0xFF800000#32) _ _ = _
  rw [ofBits_bot]
  rfl

/-- Per row, the least column number at which two blocks agree. -/
def position (x m : FVec Ideal S512x64 .f32) (v : IVec S512x64 32) : IVec S512 32 :=
  multiReductionI .minsi [1] S512 (select (cmpf .oeq x m) v (broadcast S512x64 64#32)) 2147483647#32 reduces_S512x64_S512 rfl

/-- The least column number among those holding the row maximum is the best position. -/
theorem rowpos_apply (x m : FVec Ideal S512x64 .f32) (v : IVec S512x64 32) (hv : IsIota v) (r : Fin 512)
    (hm : ∀ j, m (ix2 r j) = row x r (best (row x r))) :
    position x m v (ix1 r)
      = BitVec.ofNat 32 (best (row x r)).val := by
  refine (multiReductionI_eq_fold .minsi _ 2147483647#32 reduces_S512x64_S512 rfl (ix1 r)).trans
    ((reduces_S512x64_S512.fold_filter_drop_single IntOp.minsi _ _ (ix1 r)).trans ?_)
  rw [← Corr.fold_position (row x r) _ rfl]
  refine congrArg (fun g => Finset.fold IntOp.minsi 2147483647#32 g (Finset.univ : Finset (Fin 64))) (funext fun (j : Fin 64) => ?_)
  refine (congrArg (select (cmpf .oeq x m) v (broadcast S512x64 64#32)) (lift_eq r j)).trans ?_
  rw [select_apply, cmpf_apply, hv, hm, broadcast_apply]
  show Scalar.select (BitVec.ofBool (decide (row x r j = _))) _ _ = _
  by_cases h : row x r j = row x r (best (row x r))
  · rw [if_pos h, decide_eq_true h]; rfl
  · rw [if_neg h, decide_eq_false h]; rfl

theorem ofNat_inj (i j : Fin 64) : (BitVec.ofNat 32 i.val = BitVec.ofNat 32 j.val) ↔ i = j := by
  constructor
  · intro h
    have h' := congrArg BitVec.toNat h
    rw [BitVec.toNat_ofNat, BitVec.toNat_ofNat] at h'
    exact Fin.ext (by omega)
  · rintro rfl; rfl

/-- A selection by the comparison of the column number with the row's position. -/
theorem select_position {α : Type} (v : IVec S512x64 32) (hv : IsIota v) (p : IVec S512x1 32) (a b : S512x64.Idx → α)
    (r : Fin 512) (i : Fin 64) (hp : p (ix2 r 0) = BitVec.ofNat 32 i.val) (j : Fin 64) :
    select (cmpi .eq v (broadcastTo S512x64 p broadcasts_S512x1_S512x64)) a b (ix2 r j)
      = if j = i then a (ix2 r j) else b (ix2 r j) := by
  rw [select_apply]
  show Scalar.select (IntOp.cmpi .eq (v (ix2 r j)) (broadcastTo S512x64 p broadcasts_S512x1_S512x64 (ix2 r j))) _ _ = _
  rw [spread_apply, hv, hp]
  by_cases h : j = i
  · subst h; rw [if_pos rfl]; simp [IntOp.cmpi, Scalar.select]
  · have h' : ¬ BitVec.ofNat 32 j.val = BitVec.ofNat 32 i.val := fun e => h ((ofNat_inj j i).mp e)
    rw [if_neg h]
    have h'' : (BitVec.ofNat 32 j.val == BitVec.ofNat 32 i.val) = false := by simpa using h'
    show Scalar.select (BitVec.ofBool (BitVec.ofNat 32 j.val == BitVec.ofNat 32 i.val)) _ _ = _
    rw [h'']; rfl

/-- Masking the best position with minus infinity. -/
theorem mask_row (x : FVec Ideal S512x64 .f32) (v : IVec S512x64 32) (hv : IsIota v) (p : IVec S512x1 32) (r : Fin 512)
    (hp : p (ix2 r 0) = BitVec.ofNat 32 (best (row x r)).val) :
    row (select (cmpi .eq v (broadcastTo S512x64 p broadcasts_S512x1_S512x64))
      (broadcast S512x64 (Scalar.ofBits (F := Ideal) .f32 0xFF800000#32)) x) r = mask (row x r) := by
  funext j
  refine (select_position v hv p _ x r _ hp j).trans ?_
  rw [broadcast_apply]
  show (if j = _ then Ideal.ofBits .f32 0xFF800000#32 else _) = _
  rw [ofBits_bot]
  rfl

theorem pay9_eq (x : FVec Ideal S512x64 .f32) (v : IVec S512x64 32) (m : FVec Ideal S512 .f32) :
    k0_pay9 x v m = shapeCast S512x1 (position x (broadcastTo S512x64 (k0_pay8 m) broadcasts_S512x1_S512x64) v) shapeCasts_S512_S512x1 := rfl

theorem pay12_eq (x : FVec Ideal S512x64 .f32) (v : IVec S512x64 32) (m : FVec Ideal S512 .f32) :
    k0_pay12 x v m = shapeCast S512x1 (position (k0_pay10 x v m) (broadcastTo S512x64 (k0_pay11 x v m) broadcasts_S512x1_S512x64) v) shapeCasts_S512_S512x1 := rfl

theorem pay15_eq (x : FVec Ideal S512x64 .f32) (v : IVec S512x64 32) (m : FVec Ideal S512 .f32) :
    k0_pay15 x v m = shapeCast S512x1 (position (k0_pay13 x v m) (broadcastTo S512x64 (k0_pay14 x v m) broadcasts_S512x1_S512x64) v) shapeCasts_S512_S512x1 := rfl

theorem pay18_eq (x : FVec Ideal S512x64 .f32) (v : IVec S512x64 32) (m : FVec Ideal S512 .f32) :
    k0_pay18 x v m = shapeCast S512x1 (position (k0_pay16 x v m) (broadcastTo S512x64 (k0_pay17 x v m) broadcasts_S512x1_S512x64) v) shapeCasts_S512_S512x1 := rfl

theorem pay11_eq (x : FVec Ideal S512x64 .f32) (v : IVec S512x64 32) (m : FVec Ideal S512 .f32) :
    k0_pay11 x v m = shapeCast S512x1 (rowmax (k0_pay10 x v m)) shapeCasts_S512_S512x1 := rfl

theorem pay14_eq (x : FVec Ideal S512x64 .f32) (v : IVec S512x64 32) (m : FVec Ideal S512 .f32) :
    k0_pay14 x v m = shapeCast S512x1 (rowmax (k0_pay13 x v m)) shapeCasts_S512_S512x1 := rfl

theorem pay17_eq (x : FVec Ideal S512x64 .f32) (v : IVec S512x64 32) (m : FVec Ideal S512 .f32) :
    k0_pay17 x v m = shapeCast S512x1 (rowmax (k0_pay16 x v m)) shapeCasts_S512_S512x1 := rfl

section Selection

variable (x : FVec Ideal S512x64 .f32) (v : IVec S512x64 32) (hv : IsIota v) (m : FVec Ideal S512 .f32) (r : Fin 512)
  (hm : m (ix1 r) = row x r (taken (row x r) 0))

include hm in
theorem pay8_apply : k0_pay8 m (ix2 r 0) = row x r (taken (row x r) 0) := (column_apply m r).trans hm

include hv hm in
theorem pay9_apply : k0_pay9 x v m (ix2 r 0) = BitVec.ofNat 32 (taken (row x r) 0).val :=
  (congrFun (pay9_eq x v m) _).trans <| (column_apply _ r).trans (rowpos_apply x _ v hv r fun j => (spread_apply _ r j).trans (pay8_apply x m r hm))

include hv hm in
theorem pay10_row : row (k0_pay10 x v m) r = rounds (row x r) 1 :=
  mask_row x v hv _ r (pay9_apply x v hv m r hm)

include hv hm in
theorem pay11_apply : k0_pay11 x v m (ix2 r 0) = rounds (row x r) 1 (taken (row x r) 1) := by
  rw [pay11_eq]
  refine (column_apply _ r).trans ((rowmax_apply _ r).trans ?_)
  rw [pay10_row x v hv m r hm]
  rfl

include hv hm in
theorem pay12_apply : k0_pay12 x v m (ix2 r 0) = BitVec.ofNat 32 (taken (row x r) 1).val := by
  rw [pay12_eq]
  have e := pay10_row x v hv m r hm
  refine (column_apply _ r).trans ((rowpos_apply (k0_pay10 x v m) _ v hv r fun j => ?_).trans ?_)
  · rw [e]; exact (spread_apply _ r j).trans (pay11_apply x v hv m r hm)
  · rw [e]; rfl

include hv hm in
theorem pay13_row : row (k0_pay13 x v m) r = rounds (row x r) 2 := by
  have e := pay10_row x v hv m r hm
  refine (mask_row (k0_pay10 x v m) v hv _ r ?_).trans ?_
  · rw [e]; exact pay12_apply x v hv m r hm
  · rw [e]; rfl

include hv hm in
theorem pay14_apply : k0_pay14 x v m (ix2 r 0) = rounds (row x r) 2 (taken (row x r) 2) := by
  rw [pay14_eq]
  refine (column_apply _ r).trans ((rowmax_apply _ r).trans ?_)
  rw [pay13_row x v hv m r hm]
  rfl

include hv hm in
theorem pay15_apply : k0_pay15 x v m (ix2 r 0) = BitVec.ofNat 32 (taken (row x r) 2).val := by
  rw [pay15_eq]
  have e := pay13_row x v hv m r hm
  refine (column_apply _ r).trans ((rowpos_apply (k0_pay13 x v m) _ v hv r fun j => ?_).trans ?_)
  · rw [e]; exact (spread_apply _ r j).trans (pay14_apply x v hv m r hm)
  · rw [e]; rfl

include hv hm in
theorem pay16_row : row (k0_pay16 x v m) r = rounds (row x r) 3 := by
  have e := pay13_row x v hv m r hm
  refine (mask_row (k0_pay13 x v m) v hv _ r ?_).trans ?_
  · rw [e]; exact pay15_apply x v hv m r hm
  · rw [e]; rfl

include hv hm in
theorem pay17_apply : k0_pay17 x v m (ix2 r 0) = rounds (row x r) 3 (taken (row x r) 3) := by
  rw [pay17_eq]
  refine (column_apply _ r).trans ((rowmax_apply _ r).trans ?_)
  rw [pay16_row x v hv m r hm]
  rfl

include hv hm in
theorem pay18_apply : k0_pay18 x v m (ix2 r 0) = BitVec.ofNat 32 (taken (row x r) 3).val := by
  rw [pay18_eq]
  have e := pay16_row x v hv m r hm
  refine (column_apply _ r).trans ((rowpos_apply (k0_pay16 x v m) _ v hv r fun j => ?_).trans ?_)
  · rw [e]; exact (spread_apply _ r j).trans (pay17_apply x v hv m r hm)
  · rw [e]; rfl

end Selection

end Cert.KernelIdeal.Rounds

end
-- ==== Proof.Block.lean ====
/- What the kernel's body leaves in its aggregation block: each row is the weighted sum of the value row's rotations. -/
module

public import proofs.«01_k».proof.Proof.Rounds

@[expose] public section

noncomputable section

namespace Cert.KernelIdeal.Block

open Corr (corr pos ex weight agg spike)
open Cert.KernelIdeal Cert.KernelIdeal.Gen Cert.KernelIdeal.Spectrum Cert.KernelIdeal.Rounds
open Idealize.ShloMosaic Idealize.ShloMosaic.ValueIdx

/-- A column of weights spread over the block where the column number is the row's position, another block elsewhere. -/
theorem place_apply (v : IVec S512x64 32) (hv : IsIota v) (p : IVec S512x1 32) (w : FVec Ideal S512x1 .f32)
    (b : FVec Ideal S512x64 .f32) (r : Fin 512) (i : Fin 64) (hp : p (ix2 r 0) = BitVec.ofNat 32 i.val) (j : Fin 64) :
    select (cmpi .eq v (broadcastTo S512x64 p broadcasts_S512x1_S512x64))
      (broadcastTo S512x64 (shapeCast S512x1 w shapeCasts_S512x1_S512x1) broadcasts_S512x1_S512x64) b (ix2 r j)
      = if j = i then w (ix2 r 0) else b (ix2 r j) := by
  rw [select_position v hv p _ b r i hp j, shapeCast_self, spread_apply]

/-- The quotient of one exponential by the sum of the four. -/
theorem quotient_apply (e n : FVec Ideal S512x1 .f32) (r : Fin 512) (y : Fin 64 → ℝ) (i : Fin 4)
    (he : e (ix2 r 0) = (ex y i : EReal)) (hn : n (ix2 r 0) = ((ex y 0 + ex y 1 + ex y 2 + ex y 3 : ℝ) : EReal)) :
    divf e n (ix2 r 0) = (weight y i : EReal) := by
  have h : ex y 0 + ex y 1 + ex y 2 + ex y 3 ≠ 0 := by
    have := Real.exp_pos; unfold ex; positivity
  rw [ValueIdx.divf_apply, he, hn, Ideal.div_coe h, ← EReal.coe_mul]
  unfold weight
  rw [mul_one_div]

/-- The transforms of two blocks' rows combined and taken back: any real row equal to the combination is the result's. -/
theorem combine_row {x w : FVec Ideal S512x64 .f32} {f : FVec Ideal S64x128 .f32} {b : FVec Ideal S128x64 .f32}
    (hf : IsForward f) (hb : IsInverse b) {r : Fin 512} {v s a : Fin 64 → ℝ} (hx : IsRow x r v) (hw : IsRow w r s)
    (ha : ∀ t, (∑ g, ((Corr.re v g * Corr.re s g + Corr.im v g * Corr.im s g) * Corr.C g t
      + (Corr.im v g * Corr.re s g - Corr.re v g * Corr.im s g) * Corr.S g t)) * (1 / 64) = a t) :
    IsRow (mulf (matmul dot_S512x128_S128x64_S512x64_1_0_0_1_n_n (some .fp32)
        (concatenate S512x128 1 [
          ⟨S512x64, addf
            (mulf (extractStridedSlice S512x64 ![0, 0] (matmul dot_S512x64_S64x128_S512x128_1_0_0_1_n_n (some .fp32) w f
                (constant (F := Ideal) S512x128 .f32 0x00000000#32)) slices_S512x128_o0_0_S512x64)
              (extractStridedSlice S512x64 ![0, 0] (matmul dot_S512x64_S64x128_S512x128_1_0_0_1_n_n (some .fp32) x f
                (constant (F := Ideal) S512x128 .f32 0x00000000#32)) slices_S512x128_o0_0_S512x64))
            (mulf (extractStridedSlice S512x64 ![0, 64] (matmul dot_S512x64_S64x128_S512x128_1_0_0_1_n_n (some .fp32) w f
                (constant (F := Ideal) S512x128 .f32 0x00000000#32)) slices_S512x128_o0_64_S512x64)
              (extractStridedSlice S512x64 ![0, 64] (matmul dot_S512x64_S64x128_S512x128_1_0_0_1_n_n (some .fp32) x f
                (constant (F := Ideal) S512x128 .f32 0x00000000#32)) slices_S512x128_o0_64_S512x64))⟩,
          ⟨S512x64, subf
            (mulf (extractStridedSlice S512x64 ![0, 0] (matmul dot_S512x64_S64x128_S512x128_1_0_0_1_n_n (some .fp32) w f
                (constant (F := Ideal) S512x128 .f32 0x00000000#32)) slices_S512x128_o0_0_S512x64)
              (extractStridedSlice S512x64 ![0, 64] (matmul dot_S512x64_S64x128_S512x128_1_0_0_1_n_n (some .fp32) x f
                (constant (F := Ideal) S512x128 .f32 0x00000000#32)) slices_S512x128_o0_64_S512x64))
            (mulf (extractStridedSlice S512x64 ![0, 64] (matmul dot_S512x64_S64x128_S512x128_1_0_0_1_n_n (some .fp32) w f
                (constant (F := Ideal) S512x128 .f32 0x00000000#32)) slices_S512x128_o0_64_S512x64)
              (extractStridedSlice S512x64 ![0, 0] (matmul dot_S512x64_S64x128_S512x128_1_0_0_1_n_n (some .fp32) x f
                (constant (F := Ideal) S512x128 .f32 0x00000000#32)) slices_S512x128_o0_0_S512x64))⟩]
          concatenates_S512x64_S512x64_S512x128_d1) b
        (constant (F := Ideal) S512x64 .f32 0x00000000#32))
      (broadcast S512x64 (Scalar.ofBits (F := Ideal) .f32 0x3C800000#32))) r a := by
  intro t
  refine (inverse_apply hb (a := fun g => Corr.re v g * Corr.re s g + Corr.im v g * Corr.im s g)
    (b := fun g => Corr.im v g * Corr.re s g - Corr.re v g * Corr.im s g) (fun g => ?_) (fun g => ?_) t).trans
    (congrArg _ (ha t))
  · rw [ValueIdx.addf_apply, ValueIdx.mulf_apply, ValueIdx.mulf_apply, left_apply hf hx g, left_apply hf hw g,
      right_apply hf hx g, right_apply hf hw g, mul_comm (Corr.re s g : EReal), mul_comm (Corr.im s g : EReal)]
    simp only [EReal.coe_add, EReal.coe_mul]
  · rw [ValueIdx.subf_apply, ValueIdx.mulf_apply, ValueIdx.mulf_apply, left_apply hf hx g, left_apply hf hw g,
      right_apply hf hx g, right_apply hf hw g, mul_comm (Corr.re s g : EReal), mul_comm (Corr.im s g : EReal)]
    simp only [EReal.coe_sub, EReal.coe_mul]

/-- The row of weights times the forward table, combined with the value row's transform and taken back: the weighted sum
    of the value row's rotations. -/
theorem pay21_row (v5 : FVec Ideal S512x64 .f32) (v7 : FVec Ideal S64x128 .f32) (v9 : FVec Ideal S128x64 .f32) (v30 : IVec S512x64 32)
    (v32 : FVec Ideal S512x1 .f32) (v38 v50 : IVec S512x1 32) (v56 : FVec Ideal S512x1 .f32) (v62 : IVec S512x1 32)
    (v68 : FVec Ideal S512x1 .f32) (v74 : IVec S512x1 32) (v76 v77 : FVec Ideal S512x1 .f32)
    (h7 : IsForward v7) (h9 : IsInverse v9) (h30 : IsIota v30) (r : Fin 512) (y v : Fin 64 → ℝ) (h5 : IsRow v5 r v)
    (h32 : v32 (ix2 r 0) = (y (pos y 0) : EReal)) (h56 : v56 (ix2 r 0) = (y (pos y 2) : EReal))
    (h68 : v68 (ix2 r 0) = (y (pos y 3) : EReal)) (h76 : v76 (ix2 r 0) = (ex y 0 : EReal))
    (h77 : v77 (ix2 r 0) = ((y (pos y 1) - y (pos y 0) : ℝ) : EReal))
    (h38 : v38 (ix2 r 0) = BitVec.ofNat 32 (pos y 0).val) (h50 : v50 (ix2 r 0) = BitVec.ofNat 32 (pos y 1).val)
    (h62 : v62 (ix2 r 0) = BitVec.ofNat 32 (pos y 2).val) (h74 : v74 (ix2 r 0) = BitVec.ofNat 32 (pos y 3).val) :
    IsRow (k0_pay21 v5 v7 v9 v30 v32 v38 v50 v56 v62 v68 v74 v76 v77) r (agg y v) := by
  have e1 : exp v77 (ix2 r 0) = (ex y 1 : EReal) := by
    show Ideal.exp (v77 (ix2 r 0)) = _
    rw [h77, Ideal.exp_coe]; rfl
  have e2 : exp (subf v56 v32) (ix2 r 0) = (ex y 2 : EReal) := by
    show Ideal.exp (v56 (ix2 r 0) - v32 (ix2 r 0)) = _
    rw [h56, h32, ← EReal.coe_sub, Ideal.exp_coe]; rfl
  have e3 : exp (subf v68 v32) (ix2 r 0) = (ex y 3 : EReal) := by
    show Ideal.exp (v68 (ix2 r 0) - v32 (ix2 r 0)) = _
    rw [h68, h32, ← EReal.coe_sub, Ideal.exp_coe]; rfl
  have hn : addf (addf (addf v76 (exp v77)) (exp (subf v56 v32))) (exp (subf v68 v32)) (ix2 r 0)
      = ((ex y 0 + ex y 1 + ex y 2 + ex y 3 : ℝ) : EReal) := by
    rw [ValueIdx.addf_apply, ValueIdx.addf_apply, ValueIdx.addf_apply, h76, e1, e2, e3]
    simp only [EReal.coe_add]
  unfold k0_pay21
  extract_lets v78 v79 v80 v81 v82 v83 v84 v85 cst v86 v87 v88 v89 v90 v91 v92 v93 v94 v95 v96 v97 v98 v99 v100 v101 v102 v103 v104 v105 v106 v107 v108 v109 v110
  have hw : IsRow v110 r (spike y) := by
    intro j
    refine (place_apply v30 h30 v74 v107 v104 r (pos y 3) h74 j).trans ?_
    rw [show v107 (ix2 r 0) = (weight y 3 : EReal) from quotient_apply _ _ r y 3 e3 hn,
      show v104 (ix2 r j) = _ from place_apply v30 h30 v62 v101 v98 r (pos y 2) h62 j,
      show v101 (ix2 r 0) = (weight y 2 : EReal) from quotient_apply _ _ r y 2 e2 hn,
      show v98 (ix2 r j) = _ from place_apply v30 h30 v50 v95 v92 r (pos y 1) h50 j,
      show v95 (ix2 r 0) = (weight y 1 : EReal) from quotient_apply _ _ r y 1 e1 hn,
      show v92 (ix2 r j) = _ from place_apply v30 h30 v38 v89 v86 r (pos y 0) h38 j,
      show v89 (ix2 r 0) = (weight y 0 : EReal) from quotient_apply _ _ r y 0 h76 hn,
      show v86 (ix2 r j) = ((0 : ℝ) : EReal) from Ideal.ofBits_zero_f32]
    unfold spike
    split_ifs <;> rfl
  exact combine_row h7 h9 h5 hw fun t => (Corr.correlation v (spike y) t).trans (Corr.corr_spike y v t)

/-- The column numbers. -/
theorem iota_isIota : IsIota (iota .tc S512x64 32 [1] iota_S512x64_d1_w32) := fun r j =>
  iota_single_apply .tc S512x64 32 1 iota_S512x64_d1_w32 (ix2 r j)

/-- The exponential of the greatest entry less itself. -/
theorem pay19_apply (m : FVec Ideal S512 .f32) (i : S512x1.Idx) : k0_pay19 m i = Ideal.exp (k0_pay8 m i - k0_pay8 m i) := rfl

/-- The second entry less the greatest. -/
theorem pay20_apply (x : FVec Ideal S512x64 .f32) (v : IVec S512x64 32) (m : FVec Ideal S512 .f32) (i : S512x1.Idx) :
    k0_pay20 x v m i = k0_pay11 x v m i - k0_pay8 m i := rfl

/-- The whole body, for the aggregation block: each row is the weighted sum of the value row's rotations by the positions
    of the four greatest entries of the row of cross-correlations. -/
theorem body_row (v0 v2 v4 : Vec Ideal S1x1x512x64 .f32) (v6 : Vec Ideal S64x128 .f32) (v8 : Vec Ideal S128x64 .f32)
    (h6 : IsForward v6) (h8 : IsInverse v8) (v30 : IVec S512x64 32) (h30 : IsIota v30) (r : Fin 512) (q k v : Fin 64 → ℝ)
    (hq : ∀ e, v0 (ix4 0 0 r e) = (q e : EReal)) (hk : ∀ e, v2 (ix4 0 0 r e) = (k e : EReal))
    (hv : ∀ e, v4 (ix4 0 0 r e) = (v e : EReal)) :
    IsRow (k0_pay21 (k0_pay2 v4) (k0_pay3 v6) (k0_pay4 v8) v30 (k0_pay8 (k0_pay7 v0 v2 v6 v8))
      (k0_pay9 (k0_pay5 v0 v2 v6 v8) v30 (k0_pay7 v0 v2 v6 v8)) (k0_pay12 (k0_pay5 v0 v2 v6 v8) v30 (k0_pay7 v0 v2 v6 v8))
      (k0_pay14 (k0_pay5 v0 v2 v6 v8) v30 (k0_pay7 v0 v2 v6 v8)) (k0_pay15 (k0_pay5 v0 v2 v6 v8) v30 (k0_pay7 v0 v2 v6 v8))
      (k0_pay17 (k0_pay5 v0 v2 v6 v8) v30 (k0_pay7 v0 v2 v6 v8)) (k0_pay18 (k0_pay5 v0 v2 v6 v8) v30 (k0_pay7 v0 v2 v6 v8))
      (k0_pay19 (k0_pay7 v0 v2 v6 v8)) (k0_pay20 (k0_pay5 v0 v2 v6 v8) v30 (k0_pay7 v0 v2 v6 v8))) r (agg (corr q k) v) := by
  have e6 : k0_pay3 v6 = v6 := shapeCast_self _ _
  have e8 : k0_pay4 v8 = v8 := shapeCast_self _ _
  have e7 : k0_pay7 v0 v2 v6 v8 = rowmax (k0_pay5 v0 v2 v6 v8) := rfl
  have hx := pay5_row v0 v2 v6 v8 h6 h8 r q k hq hk
  rw [e6, e8, e7]
  generalize k0_pay5 v0 v2 v6 v8 = x at hx ⊢
  have hrow : row x r = fun j => (corr q k j : EReal) := funext hx
  have hm : rowmax x (ix1 r) = row x r (Corr.taken (row x r) 0) := rowmax_apply x r
  generalize corr q k = y at hrow ⊢
  have hval := Corr.rounds_pos y
  have p8 := pay8_apply x _ r hm
  have p11 := pay11_apply x v30 h30 _ r hm
  have p14 := pay14_apply x v30 h30 _ r hm
  have p17 := pay17_apply x v30 h30 _ r hm
  have p9 := pay9_apply x v30 h30 _ r hm
  have p12 := pay12_apply x v30 h30 _ r hm
  have p15 := pay15_apply x v30 h30 _ r hm
  have p18 := pay18_apply x v30 h30 _ r hm
  rw [hrow] at p8 p11 p14 p17 p9 p12 p15 p18
  have h8' : k0_pay8 (rowmax x) (ix2 r 0) = (y (pos y 0) : EReal) := p8.trans (hval 0)
  have h11' : k0_pay11 x v30 (rowmax x) (ix2 r 0) = (y (pos y 1) : EReal) := p11.trans (hval 1)
  have h14' : k0_pay14 x v30 (rowmax x) (ix2 r 0) = (y (pos y 2) : EReal) := p14.trans (hval 2)
  have h17' : k0_pay17 x v30 (rowmax x) (ix2 r 0) = (y (pos y 3) : EReal) := p17.trans (hval 3)
  refine pay21_row _ _ _ _ _ _ _ _ _ _ _ _ _ h6 h8 h30 r y v (fun e => (drop_units_apply v4 r e).trans (hv e)) h8'
    h14' h17' ?_ ?_ p9 p12 p15 p18
  · rw [pay19_apply, h8', ← EReal.coe_sub, Ideal.exp_coe]; rfl
  · rw [pay20_apply, h8', h11', EReal.coe_sub]

end Cert.KernelIdeal.Block

end
-- ==== Proof.Tables.lean ====
/- The two tables the host hands the kernel, as the region finds them: the cosines and negated sines of the transform. -/
module

public import proofs.«01_k».proof.Proof.Gen.KernelIdeal.Frame
public import proofs.«01_k».proof.Proof.Spectrum
public import Idealize.ShloMosaic.Lib.Claim
public import Idealize.ShloMosaic.Lib.IdealHost

@[expose] public section

noncomputable section

namespace Cert.KernelIdeal.Tables

open Cert.KernelIdeal Cert.KernelIdeal.Gen Cert.KernelIdeal.Spectrum
open Idealize.ShloMosaic Idealize.ShloMosaic.TcCoe Idealize.ShloMosaic.ValueIdx

/-- The column numbers as 64 by 64 block of products reduced modulo 64, as the host computes it. -/
def products : IVec S64x64 32 :=
  andi (muli (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
    (broadcastInDim S64x64 ![] bcast_S_S64x64 (constantI S_ 32 63#32))

/-- The angles, as the host computes them. -/
def angles : FVec Ideal S64x64 .f32 :=
  Host.divf (mulf (broadcastInDim S64x64 ![] bcast_S_S64x64
      (mulf (constant (F := Ideal) S_ .f32 0x40000000#32) (Host.acos (constant (F := Ideal) S_ .f32 0xBF800000#32)))) (sitofp .f32 products))
    (broadcastInDim S64x64 ![] bcast_S_S64x64 (constant (F := Ideal) S_ .f32 0x42800000#32))

theorem products_word (e f : Fin 64) : IntOp.andi (IntOp.muli (BitVec.ofNat 32 e.val) (BitVec.ofNat 32 f.val)) 63#32
    = BitVec.ofNat 32 (e.val * f.val % 64) := by
  apply BitVec.eq_of_toNat_eq
  show ((BitVec.ofNat 32 e.val * BitVec.ofNat 32 f.val) &&& 63#32).toNat = _
  have h : e.val * f.val ≤ 63 * 63 := Nat.mul_le_mul (by omega) (by omega)
  rw [BitVec.toNat_and, BitVec.toNat_mul, BitVec.toNat_ofNat, BitVec.toNat_ofNat, BitVec.toNat_ofNat, BitVec.toNat_ofNat,
    Nat.mod_eq_of_lt (a := e.val) (by omega), Nat.mod_eq_of_lt (a := f.val) (by omega), Nat.mod_eq_of_lt (a := e.val * f.val) (by omega),
    Nat.mod_eq_of_lt (a := e.val * f.val % 64) (by omega)]
  exact Nat.and_two_pow_sub_one_eq_mod (e.val * f.val) 6

theorem products_apply (e f : Fin 64) : products (ix2 e f) = BitVec.ofNat 32 (e.val * f.val % 64) := by
  rw [← products_word]
  unfold products
  show IntOp.andi (IntOp.muli _ _) _ = _
  rw [broadcastInDim_apply ![0, 1] bcast_S64x1_S64x64_0_1 _ (ix2 e f) (ix2 e 0) (fun a => match a with | ⟨0, _⟩ => rfl | ⟨1, _⟩ => rfl),
    broadcastInDim_apply ![0] bcast_S64_S64x1_0 _ (ix2 e 0) (ix1 e) (fun a => match a with | ⟨0, _⟩ => rfl),
    broadcastInDim_apply ![0, 1] bcast_S1x64_S64x64_0_1 _ (ix2 e f) (ix2 0 f) (fun a => match a with | ⟨0, _⟩ => rfl | ⟨1, _⟩ => rfl),
    broadcastInDim_apply ![1] bcast_S64_S1x64_1 _ (ix2 0 f) (ix1 f) (fun a => match a with | ⟨0, _⟩ => rfl),
    broadcastInDim_apply ![] bcast_S_S64x64 _ (ix2 e f) ix0 (fun a => a.elim0)]
  rfl

theorem ofBits_two : Ideal.ofBits .f32 0x40000000#32 = ((2 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

/-- The host's turn is twice pi: pi is the arc cosine of minus one. -/
theorem two_pi : mulf (constant (F := Ideal) S_ .f32 0x40000000#32) (Host.acos (constant (F := Ideal) S_ .f32 0xBF800000#32)) ix0
    = ((2 * Real.pi : ℝ) : EReal) := by
  show Ideal.ofBits .f32 0x40000000#32 * Ideal.acos (Ideal.ofBits .f32 0xBF800000#32) = _
  rw [ofBits_two, ofBits_neg_one, Ideal.acos_coe, if_pos ⟨le_refl _, by norm_num⟩, Real.arccos_neg_one, ← EReal.coe_mul]

theorem angles_apply (e f : Fin 64) : angles (ix2 e f) = (Corr.angle e f : EReal) := by
  unfold angles
  show Ideal.div (broadcastInDim S64x64 ![] bcast_S_S64x64
      (mulf (constant (F := Ideal) S_ .f32 0x40000000#32) (Host.acos (constant (F := Ideal) S_ .f32 0xBF800000#32))) (ix2 e f)
      * (((products (ix2 e f)).toInt : ℝ) : EReal))
    (broadcastInDim S64x64 ![] bcast_S_S64x64 (constant (F := Ideal) S_ .f32 0x42800000#32) (ix2 e f)) = _
  rw [broadcastInDim_apply ![] bcast_S_S64x64 _ (ix2 e f) ix0 (fun a => a.elim0), two_pi,
    broadcastInDim_apply ![] bcast_S_S64x64 _ (ix2 e f) ix0 (fun a => a.elim0), constant_apply, ofBits_64, products_apply,
    Ideal.div_coe (by norm_num), ← EReal.coe_mul, ← EReal.coe_mul]
  have h : (BitVec.ofNat 32 (e.val * f.val % 64)).toInt = ((e.val * f.val % 64 : ℕ) : ℤ) := by
    rw [BitVec.toInt_eq_toNat_of_lt] <;> rw [BitVec.toNat_ofNat] <;> omega
  rw [h]
  unfold Corr.angle
  rw [Int.cast_natCast, mul_one_div]

/-- The cosines, and the negated sines. -/
theorem cos_apply (e f : Fin 64) : Host.cos angles (ix2 e f) = (Corr.C e f : EReal) := by
  show Ideal.cos (angles (ix2 e f)) = _
  rw [angles_apply]; rfl
theorem sin_apply (e f : Fin 64) : Host.negf (Host.sin angles) (ix2 e f) = (Corr.S e f : EReal) := by
  show -(Ideal.sin (angles (ix2 e f))) = _
  rw [angles_apply]
  show -((Real.sin (Corr.angle e f) : ℝ) : EReal) = _
  rw [← EReal.coe_neg]; rfl

theorem forward_table : IsForward (concatenate S64x128 1 [⟨S64x64, Host.cos angles⟩, ⟨S64x64, Host.negf (Host.sin angles)⟩]
    concatenates_S64x64_S64x64_S64x128_d1) := fun e f => by
  constructor
  · rw [concatenate_pair_apply_left 1 _ _ concatenates_S64x64_S64x64_S64x128_d1 (ix2 e (lo f)) rfl (ix2 e f) (fun b => match b with
      | ⟨0, _⟩ => rfl
      | ⟨1, _⟩ => rfl)]
    exact cos_apply e f
  · rw [concatenate_pair_apply_right 1 _ _ concatenates_S64x64_S64x64_S64x128_d1 (ix2 e (hi f)) rfl rfl (ix2 e f) (fun b => match b with
      | ⟨0, _⟩ => fun _ => rfl
      | ⟨1, _⟩ => fun h => absurd rfl h) (Nat.add_comm _ _)]
    exact sin_apply e f

theorem inverse_table : IsInverse (concatenate S128x64 0 [⟨S64x64, Host.cos angles⟩, ⟨S64x64, Host.negf (Host.sin angles)⟩]
    concatenates_S64x64_S64x64_S128x64_d0) := fun f t => by
  constructor
  · rw [concatenate_pair_apply_left 0 _ _ concatenates_S64x64_S64x64_S128x64_d0 (ix2 (lo f) t) rfl (ix2 f t) (fun b => match b with
      | ⟨0, _⟩ => rfl
      | ⟨1, _⟩ => rfl)]
    exact cos_apply f t
  · rw [concatenate_pair_apply_right 0 _ _ concatenates_S64x64_S64x64_S128x64_d0 (ix2 (hi f) t) rfl rfl (ix2 f t) (fun b => match b with
      | ⟨0, _⟩ => fun h => absurd rfl h
      | ⟨1, _⟩ => fun _ => rfl) (Nat.add_comm _ _)]
    exact sin_apply f t

variable (m : (ℓ : Loc nD τ sig) → Buf (Elt Ideal) ℓ)

/-- The region finds the forward table in its fourth operand. -/
theorem forward (c : Dev nD) : IsForward (V m c main_v18) := by
  have h : V m c main_v18 = concatenate S64x128 1 [⟨S64x64, Host.cos angles⟩, ⟨S64x64, Host.negf (Host.sin angles)⟩]
      concatenates_S64x64_S64x64_S64x128_d1 := by
    unfold_abbrev_sides
    after_results
    rfl
  rw [h]; exact forward_table

/-- The region finds the inverse table in its fifth operand. -/
theorem inverse (c : Dev nD) : IsInverse (V m c main_v19) := by
  have h : V m c main_v19 = concatenate S128x64 0 [⟨S64x64, Host.cos angles⟩, ⟨S64x64, Host.negf (Host.sin angles)⟩]
      concatenates_S64x64_S64x64_S128x64_d0 := by
    unfold_abbrev_sides
    after_results
    rfl
  rw [h]; exact inverse_table

end Cert.KernelIdeal.Tables

end
-- ==== Proof.Target.lean ====
/- The two arrays both programs end with, as functions of the three argument arrays: each an array of real numbers given
   row by row by `Corr.agg` and `Corr.corr`. -/
module

public import proofs.«01_k».proof.Proof.Aggregate
public import Idealize.ShloMosaic.Lib.ValueIdx

@[expose] public section

noncomputable section

namespace Corr

open Idealize.ShloMosaic Idealize.ShloMosaic.ValueIdx

/-- The shape of the arguments and of the aggregated array: batch, head, position, channel. -/
abbrev Full : Shape := ⟨4, ![2, 16, 4096, 64]⟩
/-- The shape of the array of correlations: batch, delay, head and position. -/
abbrev Flat : Shape := ⟨3, ![2, 64, 65536]⟩

/-- Row `(b, h, l)` of an array, as real numbers. -/
def rowOf (X : Full.Idx → EReal) (b : Fin 2) (h : Fin 16) (l : Fin 4096) (e : Fin 64) : ℝ := (X (ix4 b h l e)).toReal

/-- Every entry of an array is a real number. -/
def AllReal (X : Full.Idx → EReal) : Prop := ∀ b h l e, X (ix4 b h l e) = (rowOf X b h l e : EReal)

/-- The head and the position a column of the array of correlations holds. -/
def headOf (n : Fin 65536) : Fin 16 := ⟨n.val / 4096, by omega⟩
def posOf (n : Fin 65536) : Fin 4096 := ⟨n.val % 4096, by omega⟩

/-- The aggregated values. -/
def aggregated (Q K X : Full.Idx → EReal) (i : Full.Idx) : EReal :=
  (agg (corr (rowOf Q (i 0) (i 1) (i 2)) (rowOf K (i 0) (i 1) (i 2))) (rowOf X (i 0) (i 1) (i 2)) (i 3) : ℝ)

/-- The correlations, the delay axis second and heads and positions together on the last. -/
def correlations (Q K : Full.Idx → EReal) (i : Flat.Idx) : EReal :=
  (corr (rowOf Q (i 0) (headOf (i 2)) (posOf (i 2))) (rowOf K (i 0) (headOf (i 2)) (posOf (i 2))) (i 1) : ℝ)

end Corr

end
-- ==== Proof.Array.lean ====
/- What the kernel's two result arrays hold after its run, over arguments of real numbers. -/
module

public import proofs.«01_k».proof.Proof.Gen.KernelIdeal.Value
public import proofs.«01_k».proof.Proof.Block
public import proofs.«01_k».proof.Proof.Tables
public import proofs.«01_k».proof.Proof.Target
public import Idealize.ShloMosaic.Lib.Pipeline.ValueKit

@[expose] public section

noncomputable section

namespace Cert.KernelIdeal.Array

open Corr (corr agg rowOf AllReal aggregated correlations)
open Cert.KernelIdeal Cert.KernelIdeal.Gen Cert.KernelIdeal.Spectrum Cert.KernelIdeal.Block
open Idealize.ShloMosaic hiding ix2 ix3 ix4
open Idealize.ShloMosaic.TcCoe Idealize.ShloMosaic.ValueIdx
open Idealize.ShloMosaic.Pipeline (Dat)

variable (m : (ℓ : Loc nD τ sig) → Buf (Elt Ideal) ℓ)

/-! ## The windows' block indices -/

theorem index0 : ∀ t : Fin cfg0.N, win0_0.index t = ![(grid0.coords t 0).val, (grid0.coords t 1).val, (grid0.coords t 2).val, 0] :=
  (by decide +kernel : ∀ t : Fin grid0.N, _)
theorem index1 : ∀ t : Fin cfg0.N, win0_1.index t = ![(grid0.coords t 0).val, (grid0.coords t 1).val, (grid0.coords t 2).val, 0] :=
  (by decide +kernel : ∀ t : Fin grid0.N, _)
theorem index2 : ∀ t : Fin cfg0.N, win0_2.index t = ![(grid0.coords t 0).val, (grid0.coords t 1).val, (grid0.coords t 2).val, 0] :=
  (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, (grid0.coords t 1).val, (grid0.coords t 2).val, 0] :=
  (by decide +kernel : ∀ t : Fin grid0.N, _)
theorem index6 : ∀ t : Fin cfg0.N, win0_6.index t = ![(grid0.coords t 0).val, 0, (grid0.coords t 1).val * 8 + (grid0.coords t 2).val] :=
  (by decide +kernel : ∀ t : Fin grid0.N, _)

theorem covers5 : (cfg0.win 5).Covers := by decide +kernel
theorem covers6 : (cfg0.win 6).Covers := by decide +kernel

/-! ## A grid point's coordinates and the rows of its blocks -/

def bOf (t : Fin cfg0.N) : Fin 2 := ⟨(grid0.coords t 0).val, (grid0.coords t 0).isLt⟩
def hOf (t : Fin cfg0.N) : Fin 16 := ⟨(grid0.coords t 1).val, (grid0.coords t 1).isLt⟩
def lOf (t : Fin cfg0.N) (r : Fin 512) : Fin 4096 := ⟨(grid0.coords t 2).val * 512 + r.val, by
  have h : (grid0.coords t 2).val < 8 := (grid0.coords t 2).isLt
  omega⟩

theorem block0 (c : Dev nD) (t : Fin cfg0.N) (r : Fin 512) (e : Fin 64) :
    iblk m c 0 t (ix4 0 0 r e) = m ((c : Thread nD τ).loc main_arg0) (ix4 (bOf t) (hOf t) (lOf t r) e : S2x16x4096x64.Idx) := by
  blk_simp [iblk]
  rw [V_main_arg0]
  refine congrArg _ (funext fun a => Fin.ext ?_)
  match a with
  | ⟨0, _⟩ => blk_simp [index0]; rfl
  | ⟨1, _⟩ => blk_simp [index0]; rfl
  | ⟨2, _⟩ => blk_simp [index0]; rfl
  | ⟨3, _⟩ => blk_simp [index0]

theorem block1 (c : Dev nD) (t : Fin cfg0.N) (r : Fin 512) (e : Fin 64) :
    iblk m c 1 t (ix4 0 0 r e) = m ((c : Thread nD τ).loc main_arg1) (ix4 (bOf t) (hOf t) (lOf t r) e : S2x16x4096x64.Idx) := by
  blk_simp [iblk]
  rw [V_main_arg1]
  refine congrArg _ (funext fun a => Fin.ext ?_)
  match a with
  | ⟨0, _⟩ => blk_simp [index1]; rfl
  | ⟨1, _⟩ => blk_simp [index1]; rfl
  | ⟨2, _⟩ => blk_simp [index1]; rfl
  | ⟨3, _⟩ => blk_simp [index1]

theorem block2 (c : Dev nD) (t : Fin cfg0.N) (r : Fin 512) (e : Fin 64) :
    iblk m c 2 t (ix4 0 0 r e) = m ((c : Thread nD τ).loc main_arg2) (ix4 (bOf t) (hOf t) (lOf t r) e : S2x16x4096x64.Idx) := by
  blk_simp [iblk]
  rw [V_main_arg2]
  refine congrArg _ (funext fun a => Fin.ext ?_)
  match a with
  | ⟨0, _⟩ => blk_simp [index2]; rfl
  | ⟨1, _⟩ => blk_simp [index2]; rfl
  | ⟨2, _⟩ => blk_simp [index2]; rfl
  | ⟨3, _⟩ => blk_simp [index2]

theorem block3 (c : Dev nD) (t : Fin cfg0.N) : iblk m c 3 t = V m c main_v18 := by
  funext y
  blk_simp [iblk]
  refine congrArg _ ?_
  blk_ext [index3]

theorem block4 (c : Dev nD) (t : Fin cfg0.N) : iblk m c 4 t = V m c main_v19 := by
  funext y
  blk_simp [iblk]
  refine congrArg _ ?_
  blk_ext [index4]

/-! ## The body's two results at an index -/

theorem zeros4 : (![0, 0, 0, 0] : Fin 4 → ℕ) = fun _ => 0 := funext fun a => by fin_cases a <;> rfl
theorem zeros2 : (![0, 0] : Fin 2 → ℕ) = fun _ => 0 := funext fun a => by fin_cases a <;> rfl

theorem pay23_eq (x0 x1 x2 : Vec Ideal S1x1x512x64 .f32) (x3 : Vec Ideal S64x128 .f32) (x4 : Vec Ideal S128x64 .f32) :
    k0_pay23 x0 x1 x2 x3 x4 = k0_pay5 x0 x1 x3 x4 := by
  unfold k0_pay23
  rw [View.ld_unit_zero zeros4, View.ld_unit_zero zeros4, View.ld_unit_zero zeros2, View.ld_unit_zero zeros2]

theorem pay24_eq (x0 x1 x2 : Vec Ideal S1x1x512x64 .f32) (x3 : Vec Ideal S64x128 .f32) (x4 : Vec Ideal S128x64 .f32) :
    k0_pay24 x0 x1 x2 x3 x4 = k0_pay7 x0 x1 x3 x4 := by
  unfold k0_pay24
  rw [View.ld_unit_zero zeros4, View.ld_unit_zero zeros4, View.ld_unit_zero zeros2, View.ld_unit_zero zeros2]

theorem pay1_apply (X : FVec Ideal S512x64 .f32) (y : S1x1x512x64.Idx) : k0_pay1 X y = X (ix2 (y 2) (y 3)) := by
  have h0 : (y 0).val < 1 := (y 0).isLt
  have h1 : (y 1).val < 1 := (y 1).isLt
  exact shapeCast_apply X shapeCasts_S512x64_S1x1x512x64 y (ix2 (y 2) (y 3)) (by
    rw [Shape.rowMajor_val_two, Shape.rowMajor_val_four]
    show (y 2).val * 64 + (y 3).val = (((y 0).val * 1 + (y 1).val) * 512 + (y 2).val) * 64 + (y 3).val
    omega)

theorem pay6_apply (x0 x1 : Vec Ideal S1x1x512x64 .f32) (x3 : Vec Ideal S64x128 .f32) (x4 : Vec Ideal S128x64 .f32) (y : S1x64x512.Idx) :
    k0_pay6 x0 x1 x3 x4 y = k0_pay5 x0 x1 x3 x4 (ix2 (y 2) (y 1)) := by
  rw [Value.piece6_0]
  refine congrArg (k0_pay5 x0 x1 x3 x4) (funext fun a => Fin.ext ?_)
  match a with
  | ⟨0, _⟩ => show 0 + 1 * (y 2).val = (y 2).val; omega
  | ⟨1, _⟩ => show 0 + 1 * (y 1).val = (y 1).val; omega

/-- The aggregation block at an index. -/
theorem out5_apply (x0 x1 x2 : Vec Ideal S1x1x512x64 .f32) (x3 : Vec Ideal S64x128 .f32) (x4 : Vec Ideal S128x64 .f32)
    (h3 : IsForward x3) (h4 : IsInverse x4) (y : S1x1x512x64.Idx) (q k v : Fin 64 → ℝ)
    (hq : ∀ e, x0 (ix4 0 0 (y 2) e) = (q e : EReal)) (hk : ∀ e, x1 (ix4 0 0 (y 2) e) = (k e : EReal))
    (hv : ∀ e, x2 (ix4 0 0 (y 2) e) = (v e : EReal)) :
    out0_5 x0 x1 x2 x3 x4 y = ((agg (corr q k) v (y 3) : ℝ) : EReal) := by
  frame_out
  rw [pay1_apply, pay23_eq, pay24_eq]
  exact body_row x0 x1 x2 x3 x4 h3 h4 _ iota_isIota (y 2) q k v hq hk hv (y 3)

/-- The correlation block at an index. -/
theorem out6_apply (x0 x1 x2 : Vec Ideal S1x1x512x64 .f32) (x3 : Vec Ideal S64x128 .f32) (x4 : Vec Ideal S128x64 .f32)
    (h3 : IsForward x3) (h4 : IsInverse x4) (y : S1x64x512.Idx) (q k : Fin 64 → ℝ)
    (hq : ∀ e, x0 (ix4 0 0 (y 2) e) = (q e : EReal)) (hk : ∀ e, x1 (ix4 0 0 (y 2) e) = (k e : EReal)) :
    out0_6 x0 x1 x2 x3 x4 y = ((corr q k (y 1) : ℝ) : EReal) := by
  frame_out
  rw [pay6_apply]
  exact pay5_row x0 x1 x3 x4 h3 h4 (y 2) q k hq hk (y 1)

/-- Where an index of a grid point's block lies in the first result. -/
theorem emb5 (t : Fin cfg0.N) (y : S1x1x512x64.Idx) :
    ((View.whole main_v20_0).slice (win0_5.rect t)).emb y = (ix4 (bOf t) (hOf t) (lOf t (y 2)) (y 3) : S2x16x4096x64.Idx) := by
  refine funext fun a => Fin.ext ?_
  have h0 : (y 0).val < 1 := (y 0).isLt
  have h1 : (y 1).val < 1 := (y 1).isLt
  match a with
  | ⟨0, _⟩ => blk_simp [index5]; show _ = (grid0.coords t 0).val; omega
  | ⟨1, _⟩ => blk_simp [index5]; show _ = (grid0.coords t 1).val; omega
  | ⟨2, _⟩ => blk_simp [index5]; rfl
  | ⟨3, _⟩ => blk_simp [index5]; rfl

/-- The column of the second result a row of a grid point's block lands in. -/
def colOf (t : Fin cfg0.N) (r : Fin 512) : Fin 65536 := ⟨((grid0.coords t 1).val * 8 + (grid0.coords t 2).val) * 512 + r.val, by
  have hh : (grid0.coords t 1).val < 16 := (grid0.coords t 1).isLt
  have hl : (grid0.coords t 2).val < 8 := (grid0.coords t 2).isLt
  omega⟩

theorem head_col (t : Fin cfg0.N) (r : Fin 512) : Corr.headOf (colOf t r) = hOf t := Fin.ext (by
  have hl : (grid0.coords t 2).val < 8 := (grid0.coords t 2).isLt
  show (((grid0.coords t 1).val * 8 + (grid0.coords t 2).val) * 512 + r.val) / 4096 = (grid0.coords t 1).val
  omega)

theorem pos_col (t : Fin cfg0.N) (r : Fin 512) : Corr.posOf (colOf t r) = lOf t r := Fin.ext (by
  have hl : (grid0.coords t 2).val < 8 := (grid0.coords t 2).isLt
  show (((grid0.coords t 1).val * 8 + (grid0.coords t 2).val) * 512 + r.val) % 4096 = (grid0.coords t 2).val * 512 + r.val
  omega)

/-- Where an index of a grid point's block lies in the second result. -/
theorem emb6 (t : Fin cfg0.N) (y : S1x64x512.Idx) :
    ((View.whole main_v20_1).slice (win0_6.rect t)).emb y = (ix3 (bOf t) (y 1) (colOf t (y 2)) : S2x64x65536.Idx) := by
  refine funext fun a => Fin.ext ?_
  have h0 : (y 0).val < 1 := (y 0).isLt
  match a with
  | ⟨0, _⟩ => blk_simp [index6]; show _ = (grid0.coords t 0).val; omega
  | ⟨1, _⟩ => blk_simp [index6]; rfl
  | ⟨2, _⟩ => blk_simp [index6]; rfl

/-! ## The arrays -/

section Final

variable (c : Dev nD) (hQ : AllReal (m ((c : Thread nD τ).loc main_arg0))) (hK : AllReal (m ((c : Thread nD τ).loc main_arg1)))
  (hV : AllReal (m ((c : Thread nD τ).loc main_arg2)))

theorem tables3 (t : Fin cfg0.N) : IsForward (iblk m c 3 t) := by rw [block3]; exact Tables.forward m c
theorem tables4 (t : Fin cfg0.N) : IsInverse (iblk m c 4 t) := by rw [block4]; exact Tables.inverse m c

include hQ hK hV in
theorem point5 (t : Fin cfg0.N) (y : S1x1x512x64.Idx) :
    out0_5 (iblk m c 0 t) (iblk m c 1 t) (iblk m c 2 t) (iblk m c 3 t) (iblk m c 4 t) y
      = aggregated (m ((c : Thread nD τ).loc main_arg0)) (m ((c : Thread nD τ).loc main_arg1)) (m ((c : Thread nD τ).loc main_arg2))
        (ix4 (bOf t) (hOf t) (lOf t (y 2)) (y 3)) :=
  out5_apply _ _ _ _ _ (tables3 m c t) (tables4 m c t) y _ _ _
    (fun e => (block0 m c t (y 2) e).trans (hQ _ _ _ _)) (fun e => (block1 m c t (y 2) e).trans (hK _ _ _ _))
    (fun e => (block2 m c t (y 2) e).trans (hV _ _ _ _))

include hQ hK in
theorem point6 (t : Fin cfg0.N) (y : S1x64x512.Idx) :
    out0_6 (iblk m c 0 t) (iblk m c 1 t) (iblk m c 2 t) (iblk m c 3 t) (iblk m c 4 t) y
      = correlations (m ((c : Thread nD τ).loc main_arg0)) (m ((c : Thread nD τ).loc main_arg1)) (ix3 (bOf t) (y 1) (colOf t (y 2))) := by
  refine (out6_apply _ _ _ _ _ (tables3 m c t) (tables4 m c t) y _ _
    (fun e => (block0 m c t (y 2) e).trans (hQ _ _ _ _)) (fun e => (block1 m c t (y 2) e).trans (hK _ _ _ _))).trans ?_
  unfold correlations
  rw [← head_col t (y 2), ← pos_col t (y 2)]

include hQ hK hV in
/-- The first result: the aggregated values. -/
theorem final5 : (dats m 0 c).arrAt 5 cfg0.N = aggregated (m ((c : Thread nD τ).loc main_arg0)) (m ((c : Thread nD τ).loc main_arg1))
      (m ((c : Thread nD τ).loc main_arg2)) := by
  refine (dats m 0 c).arrAt_eq_of_covers 5 _ covers5 fun t hf y => ?_
  blk_simp
  rw [after0_5]
  exact (point5 m c hQ hK hV t y).trans (congrArg (aggregated _ _ _) (emb5 t y).symm)

include hQ hK in
/-- The second result: the correlations, delays second. -/
theorem final6 : (dats m 0 c).arrAt 6 cfg0.N = correlations (m ((c : Thread nD τ).loc main_arg0)) (m ((c : Thread nD τ).loc main_arg1)) := by
  refine (dats m 0 c).arrAt_eq_of_covers 6 _ covers6 fun t hf y => ?_
  blk_simp
  rw [after0_6]
  exact (point6 m c hQ hK t y).trans (congrArg (correlations _ _) (emb6 t y).symm)

end Final

end Cert.KernelIdeal.Array

end
-- ==== Proof.Finite.lean ====
/- What the precondition says: every entry of the three argument arrays is a real number. -/
module

public import proofs.«01_k».proof.Pre_finite
public import proofs.«01_k».proof.Proof.Target
public import Idealize.ShloMosaic.PureOps.Reduce
public import Idealize.ShloMosaic.PureOps.Ideal.Laws

@[expose] public section

noncomputable section

namespace Cert.Pre_finite

open Corr (Full rowOf AllReal)
open Idealize.ShloMosaic Idealize.ShloMosaic.ValueIdx

/-- The side conditions of the precondition's operations. -/
theorem facts : Facts where
  bcast_S_S2x16x4096x64 := by decide
  reducesTo_S2x16x4096x64_S_d0_1_2_3 := by decide
  h_S_ := by decide

/-- A conjunction of bits is one exactly when both are. -/
theorem andi_eq_one (a b : BitVec 1) : IntOp.andi a b = 1#1 ↔ a = 1#1 ∧ b = 1#1 := by
  revert a b; decide

/-- A folded conjunction that is one has every member one. -/
theorem fold_andi {ι : Type} [DecidableEq ι] (S : Finset ι) (f : ι → BitVec 1) (h : S.fold IntOp.andi 1#1 f = 1#1) :
    ∀ i ∈ S, f i = 1#1 := by
  induction S using Finset.induction_on with
  | empty => intro i hi; simp at hi
  | insert a S ha ih =>
    rw [Finset.fold_insert ha, andi_eq_one] at h
    intro i hi
    rcases Finset.mem_insert.mp hi with rfl | hi
    · exact h.1
    · exact ih h.2 i hi

theorem ofBits_top : Ideal.ofBits .f32 0x7F800000#32 = ⊤ := by
  simp [Ideal.ofBits, Ideal.ieee]

/-- An extended real whose absolute value lies below the top is a real number. -/
theorem coe_toReal_of_abs (x : EReal) (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl; simp at h'
  · rintro rfl; simp at h'

variable [Facts]
open Facts

/-- The test the precondition makes of one array. -/
def test (X : FVec Ideal S2x16x4096x64 .f32) : IVec S_ 1 :=
  Host.reduce IntOp.andi (cmpf .olt (Host.absf X)
      (broadcastInDim S2x16x4096x64 ![] bcast_S_S2x16x4096x64 (constant (F := Ideal) S_ .f32 0x7F800000#32)))
    (constantI S_ 1 1#1) reducesTo_S2x16x4096x64_S_d0_1_2_3 h_S_

theorem fn_eq (q k v : FVec Ideal S2x16x4096x64 .f32) : fn q k v = andi (andi (test q) (test k)) (test v) := rfl

/-- An array that passes the test holds real numbers. -/
theorem allReal_of_test (X : FVec Ideal S2x16x4096x64 .f32) (i : S_.Idx) (h : test X i = 1#1) : AllReal X := by
  unfold test at h
  rw [Host.reduce_eq_fold] at h
  intro b hh l e
  have hi := fold_andi _ _ h (ix4 b hh l e) (Finset.mem_filter.mpr ⟨Finset.mem_univ _, Subsingleton.elim _ _⟩)
  refine coe_toReal_of_abs _ ?_
  rw [← ofBits_top]
  exact hi

/-- The precondition makes all three arrays real. -/
theorem allReal (q k v : FVec Ideal S2x16x4096x64 .f32) (h : fn q k v = fun _ => 1#1) :
    AllReal q ∧ AllReal k ∧ AllReal v := by
  have i : S_.Idx := fun a => a.elim0
  have h' : IntOp.andi (IntOp.andi (test q i) (test k i)) (test v i) = 1#1 := congrFun h i
  rw [andi_eq_one, andi_eq_one] at h'
  exact ⟨allReal_of_test q i h'.1.1, allReal_of_test k i h'.1.2, allReal_of_test v i h'.2⟩

end Cert.Pre_finite

end
-- ==== Proof.Gather.lean ====
/- How the reference's layout operations read their operands: an array written twice along its last axis, and the two
   gathers along that axis, whose start index is read signed and clamped into the axis. -/
module

public import proofs.«01_k».proof.Proof.Gen.ReferenceIdeal
public import proofs.«01_k».proof.Proof.Target
public import Idealize.ShloMosaic.Lib.Pipeline.Value
public import Idealize.ShloMosaic.PureOps.Ideal.Laws

@[expose] public section

noncomputable section

namespace Cert.ReferenceIdeal.Gather

open Cert.ReferenceIdeal Cert.ReferenceIdeal.Gen
open Idealize.ShloMosaic Idealize.ShloMosaic.ValueIdx

/-- An array written twice along the last axis reads the array at the position modulo its length. -/
theorem doubled_apply {α : Type} (x : S2x16x4096x64.Idx → α) (b : Fin 2) (h : Fin 16) (l : Fin 4096) (e : Fin 128) :
    concatenate S2x16x4096x128 3 [⟨S2x16x4096x64, x⟩, ⟨S2x16x4096x64, x⟩]
        concatenates_S2x16x4096x64_S2x16x4096x64_S2x16x4096x128_d3 (ix4 b h l e)
      = x (ix4 b h l ⟨e.val % 64, Nat.mod_lt _ (by decide)⟩) := by
  by_cases he : e.val < 64
  · refine concatenate_pair_apply_left 3 x x _ (ix4 b h l e) rfl _ fun a => ?_
    match a with
    | ⟨0, _⟩ => rfl
    | ⟨1, _⟩ => rfl
    | ⟨2, _⟩ => rfl
    | ⟨3, _⟩ => exact Nat.mod_eq_of_lt he
  · refine concatenate_pair_apply_right 3 x x _ (ix4 b h l e) rfl rfl _ (fun a => ?_) ?_
    · match a with
      | ⟨0, _⟩ => exact fun _ => rfl
      | ⟨1, _⟩ => exact fun _ => rfl
      | ⟨2, _⟩ => exact fun _ => rfl
      | ⟨3, _⟩ => exact fun h => absurd rfl h
    · show e.val % 64 + 64 = e.val
      have := e.isLt
      omega

/-- A coordinate that comes from an offset axis alone, and one that comes from a batching axis alone. -/
theorem offset_add (n : ℕ) : 0 + 0 + n = n := by omega
theorem batch_add (n : ℕ) : 0 + n + 0 = n := by omega

/-- The gather of whole slices: result `(b, h, l, t, n)` reads the last axis at the clamped start index of `(t, n)`. -/
theorem gather_slices_apply {α : Type} (x : S2x16x4096x128.Idx → α) (idx : IVec S64x64x1 32) (b : Fin 2) (h : Fin 16) (l : Fin 4096)
    (t n : Fin 64) (e : Fin 128) (he : min (idx (ix3 t n 0)).toInt.toNat 127 = e.val) :
    Host.gather gather_S2x16x4096x128_S64x64x1_S2x16x4096x64x64_012_3_n_n_3_2_21640961 x idx (ix5 b h l t n)
      = x (ix4 b h l e) := by
  unfold Host.gather
  refine congrArg x (funext fun a => Fin.ext ?_)
  match a with
  | ⟨0, _⟩ => exact offset_add b.val
  | ⟨1, _⟩ => exact offset_add h.val
  | ⟨2, _⟩ => exact offset_add l.val
  | ⟨3, _⟩ =>
    refine Eq.trans ?_ he
    show min (idx _).toInt.toNat 127 + 0 + 0 = _
    refine congrArg (fun j => min (idx j).toInt.toNat 127) (funext fun c => ?_)
    match c with
    | ⟨0, _⟩ => rfl
    | ⟨1, _⟩ => rfl
    | ⟨2, _⟩ => rfl

/-- The gather along the last axis, row by row: result `(b, h, l, t)` reads row `(b, h, l)` at its own clamped start index. -/
theorem gather_rows_apply {α : Type} (x : S2x16x4096x128.Idx → α) (idx : IVec S2x16x4096x64x1 32) (b : Fin 2) (h : Fin 16)
    (l : Fin 4096) (t : Fin 64) (e : Fin 128) (he : min (idx (ix5 b h l t 0)).toInt.toNat 127 = e.val) :
    Host.gather gather_S2x16x4096x128_S2x16x4096x64x1_S2x16x4096x64_n_3_012_012_3_4_1111 x idx (ix4 b h l t)
      = x (ix4 b h l e) := by
  unfold Host.gather
  refine congrArg x (funext fun a => Fin.ext ?_)
  match a with
  | ⟨0, _⟩ => exact batch_add b.val
  | ⟨1, _⟩ => exact batch_add h.val
  | ⟨2, _⟩ => exact batch_add l.val
  | ⟨3, _⟩ =>
    refine Eq.trans ?_ he
    show min (idx _).toInt.toNat 127 + 0 + 0 = _
    refine congrArg (fun j => min (idx j).toInt.toNat 127) (funext fun c => ?_)
    match c with
    | ⟨0, _⟩ => rfl
    | ⟨1, _⟩ => rfl
    | ⟨2, _⟩ => rfl
    | ⟨3, _⟩ => rfl
    | ⟨4, _⟩ => rfl

end Cert.ReferenceIdeal.Gather

end
-- ==== Proof.RefCorr.lean ====
/- The reference's correlations: each row is the circular cross-correlation of the query row and the key row, and the second
   result lays the rows out with the delays second. -/
module

public import proofs.«01_k».proof.Proof.Gen.ReferenceIdeal.Read
public import proofs.«01_k».proof.Proof.Gather
public import Idealize.ShloMosaic.Lib.StableHlo.Predicate

@[expose] public section

noncomputable section

namespace Cert.ReferenceIdeal.RefCorr

open Corr (corr coe_sum rowOf AllReal headOf posOf correlations)
open Cert.ReferenceIdeal Cert.ReferenceIdeal.Gen Cert.ReferenceIdeal.Read Cert.ReferenceIdeal.Gather
open Idealize.ShloMosaic Idealize.ShloMosaic.ValueIdx

/-- The word of a sum of two positions, read signed and clamped into the doubled axis, is the sum. -/
theorem clamp_sum (t n : Fin 64) : min (IntOp.addi (BitVec.ofNat 32 t.val) (BitVec.ofNat 32 n.val)).toInt.toNat 127 = t.val + n.val := by
  have e : IntOp.addi (BitVec.ofNat 32 t.val) (BitVec.ofNat 32 n.val) = BitVec.ofNat 32 (t.val + n.val) :=
    (BitVec.ofNat_add _ _).symm
  rw [e, StableHlo.Predicate.toInt_ofNat_small _ (by omega)]
  omega

/-- The start indices of the first gather. -/
theorem starts_apply (t n : Fin 64) :
    val_main_call0_v0 (F := Ideal) (ix3 t n 0) = IntOp.addi (BitVec.ofNat 32 t.val) (BitVec.ofNat 32 n.val) := by
  rw [val_main_call0_v0_apply, val_main_v6_apply, val_main_v4_apply, val_main_v5_apply, val_main_v2_apply, val_main_v3_apply,
    val_main_v0_apply, val_main_v0_apply]

variable (Q K : FVec Ideal S2x16x4096x64 .f32)

/-- The shifted queries. -/
theorem shifted_apply (b : Fin 2) (h : Fin 16) (l : Fin 4096) (t n : Fin 64) :
    val_main_v7 (F := Ideal) Q (ix5 b h l t n) = Q (ix4 b h l (n + t)) := by
  have hlt : t.val + n.val < 128 := by omega
  refine (gather_slices_apply (val_main_v1 (F := Ideal) Q) _ b h l t n ⟨t.val + n.val, hlt⟩ ?_).trans ?_
  · rw [starts_apply]; exact clamp_sum t n
  · refine (doubled_apply Q b h l _).trans (congrArg (fun e : Fin 64 => Q (ix4 b h l e)) (Fin.ext ?_))
    show (t.val + n.val) % 64 = (n + t).val
    rw [Fin.val_add, Nat.add_comm]

/-- The keys, spread over the delays. -/
theorem keys_apply (b : Fin 2) (h : Fin 16) (l : Fin 4096) (t n : Fin 64) :
    val_main_v9 (F := Ideal) K (ix5 b h l t n) = K (ix4 b h l n) := by
  rw [val_main_v9_apply, val_main_v8_apply]
  refine congrArg K (funext fun a => ?_)
  match a with
  | ⟨0, _⟩ => rfl
  | ⟨1, _⟩ => rfl
  | ⟨2, _⟩ => rfl
  | ⟨3, _⟩ => rfl

/-- Each row of correlations. -/
theorem corr_apply (hQ : AllReal Q) (hK : AllReal K) (b : Fin 2) (h : Fin 16) (l : Fin 4096) (t : Fin 64) :
    val_main_v11 (F := Ideal) Q K (ix4 b h l t) = (corr (rowOf Q b h l) (rowOf K b h l) t : EReal) := by
  have z : val_main_cst (F := Ideal) (Shape.Idx.first h_S_) = (0 : EReal) := Ideal.ofBits_zero_f32
  have e : ∀ n : Fin 64, val_main_v10 (F := Ideal) Q K (idx_main_v11 (ix4 b h l t) n)
      = ((rowOf Q b h l (n + t) * rowOf K b h l n : ℝ) : EReal) := fun n => by
    have i5 : idx_main_v11 (ix4 b h l t) n = ix5 b h l t n := funext fun a => match a with
      | ⟨0, _⟩ => rfl
      | ⟨1, _⟩ => rfl
      | ⟨2, _⟩ => rfl
      | ⟨3, _⟩ => rfl
      | ⟨4, _⟩ => rfl
    rw [i5, EReal.coe_mul, ← hQ, ← hK, ← shifted_apply Q, ← keys_apply K b h l t n]
    rfl
  rw [val_main_v11_apply, z, zero_add]
  exact (Finset.sum_congr rfl fun n _ => e n).trans (coe_sum _)

/-- The second result. -/
theorem result (hQ : AllReal Q) (hK : AllReal K) : val_main_v66 (F := Ideal) Q K = correlations Q K := by
  funext i
  have i4 : idx_main_v65 (idx_main_v66 i) = ix4 (i 0) (headOf (i 2)) (posOf (i 2)) (i 1) := funext fun a => by
    have h0 : (i 0).val < 2 := (i 0).isLt
    have h1 : (i 1).val < 64 := (i 1).isLt
    have h2 : (i 2).val < 65536 := (i 2).isLt
    match a with
    | ⟨0, _⟩ => exact Fin.ext (show (((i 0).val * 64 + (i 1).val) * 65536 + (i 2).val) / 4194304 = (i 0).val by omega)
    | ⟨1, _⟩ => exact Fin.ext (show (((i 0).val * 64 + (i 1).val) * 65536 + (i 2).val) / 4096 % 16 = (i 2).val / 4096 by omega)
    | ⟨2, _⟩ => exact Fin.ext (show (((i 0).val * 64 + (i 1).val) * 65536 + (i 2).val) % 4096 = (i 2).val % 4096 by omega)
    | ⟨3, _⟩ => exact Fin.ext (show (((i 0).val * 64 + (i 1).val) * 65536 + (i 2).val) / 65536 % 64 = (i 1).val by omega)
  rw [val_main_v66_apply, val_main_v65_apply, i4]
  exact corr_apply Q K hQ hK _ _ _ _

end Cert.ReferenceIdeal.RefCorr

end
-- ==== Proof.TopK.lean ====
/- The reference's top four of each row: the entries at the positions the four rounds take, and those positions. -/
module

public import proofs.«01_k».proof.Proof.Gen.ReferenceIdeal
public import proofs.«01_k».proof.Proof.Target
public import Idealize.ShloMosaic.Lib.Pipeline.Value
public import Idealize.ShloMosaic.PureOps.Ideal.Laws

@[expose] public section

noncomputable section

namespace Cert.ReferenceIdeal.TopK

open Corr (pos taken sortedFrom_eq_taken)
open Cert.ReferenceIdeal Cert.ReferenceIdeal.Gen
open Idealize.ShloMosaic Idealize.ShloMosaic.ValueIdx

variable (x : FVec Ideal S2x16x4096x64 .f32) (b : Fin 2) (h : Fin 16) (l : Fin 4096) (y : Fin 64 → ℝ)

/-- The comparator on two entries of a real row. -/
theorem gt_eq (u w : EReal) : (FloatOps.cmpfTotal (F := Ideal) (φ := .f32) .gt u w == 1#1) = decide (w < u) := by
  show (BitVec.ofBool (decide (w < u)) == 1#1) = _
  cases decide (w < u) <;> rfl

/-- The row's index with its last coordinate replaced. -/
theorem along_eq (j k : Fin 64) : (ix4 b h l j : S2x16x4096x64.Idx).along 3 k = ix4 b h l k := by
  funext a
  match a with
  | ⟨0, _⟩ => rfl
  | ⟨1, _⟩ => rfl
  | ⟨2, _⟩ => rfl
  | ⟨3, _⟩ => rfl

/-- Where the sort of a real row finds its entry number `i`. -/
theorem sorted_pos (hx : ∀ e, x (ix4 b h l e) = (y e : EReal)) (i : Fin 4) :
    (sortedFrom (fun k k' : Fin 64 => FloatOps.cmpfTotal (F := Ideal) (φ := .f32) .gt
        (x ((ix4 b h l (i.castLE (by decide)) : S2x16x4096x64.Idx).along 3 k))
        (x ((ix4 b h l (i.castLE (by decide)) : S2x16x4096x64.Idx).along 3 k')) == 1#1)
      (i.castLE (by decide)) : Fin 64) = pos y i := by
  refine sortedFrom_eq_taken (fun j => (y j : EReal)) (fun _ => EReal.coe_ne_bot _) _ (fun a c => ?_) i
  rw [gt_eq, along_eq, along_eq, hx, hx]

/-- The slice keeps the first four entries of a sorted row. -/
theorem first_four {α : Type} (z : S2x16x4096x64.Idx → α) (i : Fin 4) :
    extractStridedSlice S2x16x4096x4 (fun _ => 0) z sliceFits_S2x16x4096x64_S2x16x4096x4 (ix4 b h l i)
      = z (ix4 b h l (i.castLE (by decide))) :=
  extractStridedSlice_apply _ z _ _ (ix4 b h l (i.castLE (by decide))) (fun a => match a with
    | ⟨0, _⟩ => (Nat.zero_add _).symm
    | ⟨1, _⟩ => (Nat.zero_add _).symm
    | ⟨2, _⟩ => (Nat.zero_add _).symm
    | ⟨3, _⟩ => (Nat.zero_add _).symm)

/-- The positions carried along by the sort. -/
def places : IVec S2x16x4096x64 32 := fun i =>
  if hd : 3 < S2x16x4096x64.rank then iotaInDim S2x16x4096x64 32 ⟨3, hd⟩ i else 0#32

theorem places_apply (e : Fin 64) : places (ix4 b h l e) = BitVec.ofNat 32 e.val := rfl

section Sorted

variable {α : Type} (gt : α → α → BitVec 1) (z : S2x16x4096x64.Idx → α) (p : IVec S2x16x4096x64 32) (j : S2x16x4096x64.Idx)

/-- The sort at an index: the entry of the same row at the position the sort finds, and the position's word. -/
theorem sort_values : (Host.sort2 S2x16x4096x64 3 (fun u w => gt u.1 w.1) z p).1 j
    = z (j.along 3 (sortedFrom (fun k k' => gt (z (j.along 3 k)) (z (j.along 3 k')) == 1#1) (j 3))) := by
  unfold Host.sort2
  rw [dif_pos (by decide : 3 < S2x16x4096x64.rank)]
  rfl

theorem sort_places : (Host.sort2 S2x16x4096x64 3 (fun u w => gt u.1 w.1) z p).2 j
    = p (j.along 3 (sortedFrom (fun k k' => gt (z (j.along 3 k)) (z (j.along 3 k')) == 1#1) (j 3))) := by
  unfold Host.sort2
  rw [dif_pos (by decide : 3 < S2x16x4096x64.rank)]
  rfl

theorem topK_fst : (Host.topK S2x16x4096x4 3 gt z sliceFits_S2x16x4096x64_S2x16x4096x4).1
    = extractStridedSlice S2x16x4096x4 (fun _ => 0) (Host.sort2 S2x16x4096x64 3 (fun u w => gt u.1 w.1) z places).1
        sliceFits_S2x16x4096x64_S2x16x4096x4 := rfl

theorem topK_snd : (Host.topK S2x16x4096x4 3 gt z sliceFits_S2x16x4096x64_S2x16x4096x4).2
    = extractStridedSlice S2x16x4096x4 (fun _ => 0) (Host.sort2 S2x16x4096x64 3 (fun u w => gt u.1 w.1) z places).2
        sliceFits_S2x16x4096x64_S2x16x4096x4 := rfl

end Sorted

/-- The positions of the top four. -/
theorem topK_indices (hx : ∀ e, x (ix4 b h l e) = (y e : EReal)) (i : Fin 4) :
    (Host.topK S2x16x4096x4 3 (FloatOps.cmpfTotal (F := Ideal) (φ := .f32) .gt) x sliceFits_S2x16x4096x64_S2x16x4096x4).2 (ix4 b h l i)
      = BitVec.ofNat 32 (pos y i).val := by
  rw [topK_snd, first_four, sort_places]
  exact (congrArg (fun k : Fin 64 => places ((ix4 b h l (i.castLE (by decide)) : S2x16x4096x64.Idx).along 3 k))
    (sorted_pos x b h l y hx i)).trans ((congrArg places (along_eq b h l _ _)).trans (places_apply b h l _))

/-- The top four entries. -/
theorem topK_values (hx : ∀ e, x (ix4 b h l e) = (y e : EReal)) (i : Fin 4) :
    (Host.topK S2x16x4096x4 3 (FloatOps.cmpfTotal (F := Ideal) (φ := .f32) .gt) x sliceFits_S2x16x4096x64_S2x16x4096x4).1 (ix4 b h l i)
      = (y (pos y i) : EReal) := by
  rw [topK_fst, first_four, sort_values]
  exact (congrArg (fun k : Fin 64 => x ((ix4 b h l (i.castLE (by decide)) : S2x16x4096x64.Idx).along 3 k))
    (sorted_pos x b h l y hx i)).trans ((congrArg x (along_eq b h l _ _)).trans (hx _))

end Cert.ReferenceIdeal.TopK

end
-- ==== Proof.RefWeights.lean ====
/- The reference's four delays of each row and their softmax weights. -/
module

public import proofs.«01_k».proof.Proof.RefCorr
public import proofs.«01_k».proof.Proof.TopK
public import Idealize.ShloMosaic.PureOps.Reduce

@[expose] public section

noncomputable section

namespace Cert.ReferenceIdeal.RefWeights

open Corr (corr coe_sum rowOf AllReal pos ex weight taken rounds best le_best)
open Cert.ReferenceIdeal Cert.ReferenceIdeal.Gen Cert.ReferenceIdeal.Read
open Idealize.ShloMosaic Idealize.ShloMosaic.ValueIdx

/-- Among the entries taken from a row the first is the greatest. -/
theorem le_first (y : Fin 64 → ℝ) (i : Fin 4) : (y (pos y i) : EReal) ≤ (y (pos y 0) : EReal) :=
  le_best (fun j => (y j : EReal)) (pos y i)

/-- The maximum of four entries of which the first is the greatest. -/
theorem fold_four (f : Fin 4 → EReal) (hf : ∀ i, f i ≤ f 0) :
    (Finset.univ : Finset (Fin 4)).fold max ⊥ f = f 0 := by
  refine le_antisymm ?_ ?_
  · exact Finset.fold_max_le _ |>.mpr ⟨bot_le, fun i _ => hf i⟩
  · exact Finset.le_fold_max _ |>.mpr (.inr ⟨0, Finset.mem_univ _, le_rfl⟩)

theorem ofBits_bot : Ideal.ofBits .f32 0xFF800000#32 = ⊥ := by
  simp [Ideal.ofBits, Ideal.ieee]

/-- The exponential of a difference of real numbers. -/
theorem exp_sub (a b : ℝ) : FloatOps.hostUnary (F := Ideal) (φ := .f32) .exp (FloatOps.subf (F := Ideal) (φ := .f32) (a : EReal) (b : EReal))
    = (Real.exp (a - b) : EReal) := by
  show Ideal.exp ((a : EReal) - (b : EReal)) = _
  rw [← EReal.coe_sub, Ideal.exp_coe]

/-- The index of a row's entry, from the row's index and the coordinate the maximum runs over. -/
theorem lift_eq (hr : S2x16x4096x4.Reduces [3] S2x16x4096) (b : Fin 2) (h : Fin 16) (l : Fin 4096) (i : Fin 4) :
    hr.lift (ix3 b h l) i = ix4 b h l i := funext fun a => match a with
  | ⟨0, _⟩ => rfl
  | ⟨1, _⟩ => rfl
  | ⟨2, _⟩ => rfl
  | ⟨3, _⟩ => rfl

/-- The maximum over four entries of which the first is the greatest. -/
theorem maximum_four (z : FVec Ideal S2x16x4096x4 .f32) (b : Fin 2) (h : Fin 16) (l : Fin 4096) (f : Fin 4 → EReal)
    (hz : ∀ i, z (ix4 b h l i) = f i) (hf : ∀ i, f i ≤ f 0) :
    Host.reduce FloatOps.maximumf z (val_main_cst_0 (F := Ideal)) reducesTo_S2x16x4096x4_S2x16x4096_d3 h_S_ (ix3 b h l) = f 0 := by
  have hr : S2x16x4096x4.Reduces [3] S2x16x4096 := by decide
  have e : (z ∘ hr.lift (ix3 b h l)) = f := funext fun (i : Fin 4) => (congrArg z (lift_eq hr b h l i)).trans (hz i)
  refine (Host.reduce_eq_fold_single FloatOps.maximumf z _ _ hr _ _).trans ?_
  refine Eq.trans ?_ (fold_four f hf)
  refine (congrArg (fun g => Finset.fold max (Ideal.ofBits .f32 0xFF800000#32) g (Finset.univ : Finset (Fin 4))) e).trans ?_
  rw [ofBits_bot]

variable (Q K : FVec Ideal S2x16x4096x64 .f32)

/-- The row of correlations at a batch, head and position. -/
abbrev row (b : Fin 2) (h : Fin 16) (l : Fin 4096) : Fin 64 → ℝ := corr (rowOf Q b h l) (rowOf K b h l)

section
variable (hQ : AllReal Q) (hK : AllReal K) (b : Fin 2) (h : Fin 16) (l : Fin 4096)
include hQ hK

/-- The top four entries and their positions. -/
theorem values_apply (i : Fin 4) : val_main_values (F := Ideal) Q K (ix4 b h l i) = (row Q K b h l (pos (row Q K b h l) i) : EReal) := by
  unfold val_main_values
  exact TopK.topK_values _ b h l _ (RefCorr.corr_apply Q K hQ hK b h l) i

theorem indices_apply (i : Fin 4) : val_main_indices (F := Ideal) Q K (ix4 b h l i) = BitVec.ofNat 32 (pos (row Q K b h l) i).val := by
  unfold val_main_indices
  exact TopK.topK_indices _ b h l _ (RefCorr.corr_apply Q K hQ hK b h l) i

/-- The greatest of the four. -/
theorem greatest_apply : val_main_v12 (F := Ideal) Q K (ix3 b h l) = (row Q K b h l (pos (row Q K b h l) 0) : EReal) := by
  unfold val_main_v12
  exact maximum_four _ b h l _ (values_apply Q K hQ hK b h l) (le_first _)

/-- The exponential of an entry less the greatest. -/
theorem exp_apply (i : Fin 4) : val_main_v18 (F := Ideal) Q K (ix4 b h l i) = (ex (row Q K b h l) i : EReal) := by
  have i3 : idx_main_v15 (idx_main_v16 (ix4 b h l i)) = ix3 b h l := funext fun a => match a with
    | ⟨0, _⟩ => rfl
    | ⟨1, _⟩ => rfl
    | ⟨2, _⟩ => rfl
  have e14 : val_main_v14 (F := Ideal) Q K (ix3 b h l) = (row Q K b h l (pos (row Q K b h l) 0) : EReal) := by
    rw [val_main_v14_apply, val_main_v13_apply, val_main_cst_1_apply, greatest_apply Q K hQ hK]
    show max (Ideal.ofBits .f32 0xFF800000#32) _ = _
    rw [ofBits_bot, bot_sup_eq]
  rw [val_main_v18_apply, val_main_v17_apply, val_main_v16_apply, val_main_v15_apply, i3, e14, values_apply Q K hQ hK]
  exact exp_sub _ _

/-- The softmax weights. -/
theorem weight_apply (i : Fin 4) : val_main_v22 (F := Ideal) Q K (ix4 b h l i) = (weight (row Q K b h l) i : EReal) := by
  have i3 : idx_main_v20 (idx_main_v21 (ix4 b h l i)) = ix3 b h l := funext fun a => match a with
    | ⟨0, _⟩ => rfl
    | ⟨1, _⟩ => rfl
    | ⟨2, _⟩ => rfl
  have i4 : ∀ k : Fin 4, idx_main_v19 (ix3 b h l) k = ix4 b h l k := fun k => funext fun a => match a with
    | ⟨0, _⟩ => rfl
    | ⟨1, _⟩ => rfl
    | ⟨2, _⟩ => rfl
    | ⟨3, _⟩ => rfl
  have e19 : val_main_v19 (F := Ideal) Q K (ix3 b h l)
      = ((ex (row Q K b h l) 0 + ex (row Q K b h l) 1 + ex (row Q K b h l) 2 + ex (row Q K b h l) 3 : ℝ) : EReal) := by
    have z : val_main_cst_2 (F := Ideal) (Shape.Idx.first h_S_) = (0 : EReal) := Ideal.ofBits_zero_f32
    rw [val_main_v19_apply, z, zero_add, ← Fin.sum_univ_four (ex (row Q K b h l)), ← coe_sum]
    exact Finset.sum_congr rfl fun k _ => by rw [i4, exp_apply Q K hQ hK]
  have hne : ex (row Q K b h l) 0 + ex (row Q K b h l) 1 + ex (row Q K b h l) 2 + ex (row Q K b h l) 3 ≠ 0 := by
    have := Real.exp_pos; unfold ex; positivity
  rw [val_main_v22_apply, val_main_v21_apply, val_main_v20_apply, i3, e19, exp_apply Q K hQ hK]
  show Ideal.div _ _ = _
  rw [Ideal.div_coe hne, ← EReal.coe_mul]
  unfold weight
  rw [mul_one_div]

end

end Cert.ReferenceIdeal.RefWeights

end
-- ==== Proof.Take.lean ====
/- The reference's reading of a doubled row at positions: where the position lies inside the doubled row, the entry there. -/
module

public import proofs.«01_k».proof.Proof.Gather
public import Idealize.ShloMosaic.PureOps.Reduce
public import Idealize.ShloMosaic.Lib.StableHlo.Predicate

@[expose] public section

noncomputable section

namespace Cert.ReferenceIdeal.Take

open Cert.ReferenceIdeal Cert.ReferenceIdeal.Gen Cert.ReferenceIdeal.Gather
open Idealize.ShloMosaic Idealize.ShloMosaic.ValueIdx

/-- The positions, counted from the end where negative. -/
def wrapped (d : IVec S2x16x4096x64 32) : IVec S2x16x4096x64 32 :=
  select (cmpi .slt d (broadcastInDim S2x16x4096x64 ![] bcast_S_S2x16x4096x64 (constantI S_ 32 0#32)))
    (addi d (broadcastInDim S2x16x4096x64 ![] bcast_S_S2x16x4096x64 (constantI S_ 32 128#32))) d

/-- The positions as start indices. -/
def starts (d : IVec S2x16x4096x64 32) : IVec S2x16x4096x64x1 32 :=
  shapeCast _ (wrapped d) shapeCasts_S2x16x4096x64_S2x16x4096x64x1

/-- Whether each position lies inside the doubled row, one bit for each component of its start index. -/
def insideEach (d : IVec S2x16x4096x64 32) : IVec S2x16x4096x64x1 1 :=
  andi (cmpi .sge (starts d) (broadcastInDim S2x16x4096x64x1 ![] bcast_S_S2x16x4096x64x1 (constantI S_ 32 0#32)))
    (cmpi .sle (starts d) (broadcastInDim S2x16x4096x64x1 ![0, 1, 2, 3, 4] bcast_S1x1x1x1x1_S2x16x4096x64x1_0_1_2_3_4
      (broadcastInDim S1x1x1x1x1 ![4] bcast_S1_S1x1x1x1x1_4 (constantI S1 32 127#32))))

/-- The same bit, one for each position. -/
def inside (d : IVec S2x16x4096x64 32) : IVec S2x16x4096x64 1 :=
  Host.reduce IntOp.andi (insideEach d) (constantI S_ 1 1#1) reducesTo_S2x16x4096x64x1_S2x16x4096x64_d4 h_S_

/-- The entries at the positions, another value where a position lies outside. -/
def takeAlong (x : FVec Ideal S2x16x4096x128 .f32) (d : IVec S2x16x4096x64 32) : FVec Ideal S2x16x4096x64 .f32 :=
  select (inside d)
    (Host.gather gather_S2x16x4096x128_S2x16x4096x64x1_S2x16x4096x64_n_3_012_012_3_4_1111 x (starts d))
    (broadcastInDim S2x16x4096x64 ![] bcast_S_S2x16x4096x64 (constant (F := Ideal) S_ .f32 0x7FC00000#32))

/-- A position's word read signed: not negative, and below the doubled row's end. -/
theorem word_facts (n : ℕ) (hn : n < 128) :
    IntOp.cmpi .slt (BitVec.ofNat 32 n) 0#32 = 0#1
      ∧ IntOp.andi (IntOp.cmpi .sge (BitVec.ofNat 32 n) 0#32) (IntOp.cmpi .sle (BitVec.ofNat 32 n) 127#32) = 1#1
      ∧ min (BitVec.ofNat 32 n).toInt.toNat 127 = n := by
  revert n
  decide

/-- The index of a position's one bit, from the position's index and the coordinate the conjunction runs over. -/
theorem lift_eq (hr : S2x16x4096x64x1.Reduces [4] S2x16x4096x64) (b : Fin 2) (h : Fin 16) (l : Fin 4096) (t : Fin 64) (k : Fin 1) :
    hr.lift (ix4 b h l t) k = ix5 b h l t 0 := funext fun a => match a with
  | ⟨0, _⟩ => rfl
  | ⟨1, _⟩ => rfl
  | ⟨2, _⟩ => rfl
  | ⟨3, _⟩ => rfl
  | ⟨4, _⟩ => Fin.ext (show k.val = 0 by omega)

/-- The conjunction of one bit. -/
theorem and_one (z : IVec S2x16x4096x64x1 1) (b : Fin 2) (h : Fin 16) (l : Fin 4096) (t : Fin 64) (hz : z (ix5 b h l t 0) = 1#1) :
    Host.reduce IntOp.andi z (constantI S_ 1 1#1) reducesTo_S2x16x4096x64x1_S2x16x4096x64_d4 h_S_ (ix4 b h l t) = 1#1 := by
  have hr : S2x16x4096x64x1.Reduces [4] S2x16x4096x64 := by decide
  have e : (z ∘ hr.lift (ix4 b h l t)) = fun _ : Fin 1 => 1#1 := funext fun (k : Fin 1) =>
    (congrArg z (lift_eq hr b h l t k)).trans hz
  refine (Host.reduce_eq_fold_single IntOp.andi z _ _ hr _ _).trans ?_
  exact (congrArg (fun g => Finset.fold IntOp.andi 1#1 g (Finset.univ : Finset (Fin 1))) e).trans (by decide)

variable (d : IVec S2x16x4096x64 32) (b : Fin 2) (h : Fin 16) (l : Fin 4096) (t : Fin 64) (n : ℕ) (hn : n < 128)
  (hd : d (ix4 b h l t) = BitVec.ofNat 32 n)
include hn hd

theorem wrapped_apply : wrapped d (ix4 b h l t) = BitVec.ofNat 32 n := by
  show Scalar.select (IntOp.cmpi .slt (d (ix4 b h l t)) 0#32) _ (d (ix4 b h l t)) = _
  rw [hd, (word_facts n hn).1]
  rfl

theorem starts_apply : starts d (ix5 b h l t 0) = BitVec.ofNat 32 n := by
  unfold starts
  refine (shapeCast_apply (wrapped d) shapeCasts_S2x16x4096x64_S2x16x4096x64x1 (ix5 b h l t 0) (ix4 b h l t) ?_).trans
    (wrapped_apply d b h l t n hn hd)
  rw [Shape.rowMajor_val_four, Shape.rowMajor_val_five]
  show ((b.val * 16 + h.val) * 4096 + l.val) * 64 + t.val = (((b.val * 16 + h.val) * 4096 + l.val) * 64 + t.val) * 1 + 0
  omega

theorem insideEach_apply : insideEach d (ix5 b h l t 0) = 1#1 := by
  show IntOp.andi (IntOp.cmpi .sge (starts d (ix5 b h l t 0)) 0#32) (IntOp.cmpi .sle (starts d (ix5 b h l t 0)) 127#32) = _
  rw [starts_apply d b h l t n hn hd]
  exact (word_facts n hn).2.1

theorem inside_apply : inside d (ix4 b h l t) = 1#1 := by
  unfold inside
  exact and_one _ b h l t (insideEach_apply d b h l t n hn hd)

/-- A position inside the doubled row reads the entry there. -/
theorem take_apply (x : FVec Ideal S2x16x4096x128 .f32) : takeAlong x d (ix4 b h l t) = x (ix4 b h l ⟨n, hn⟩) := by
  unfold takeAlong
  show Scalar.select (inside d (ix4 b h l t)) (Host.gather _ x (starts d) (ix4 b h l t)) _ = _
  rw [inside_apply d b h l t n hn hd, gather_rows_apply x (starts d) b h l t ⟨n, hn⟩ (by
    rw [starts_apply d b h l t n hn hd]; exact (word_facts n hn).2.2)]
  rfl

end Cert.ReferenceIdeal.Take

end
-- ==== Proof.RefAgg.lean ====
/- The reference's aggregated values: the doubled value rows read at the four delays, weighted and summed. -/
module

public import proofs.«01_k».proof.Proof.RefWeights
public import proofs.«01_k».proof.Proof.Take

@[expose] public section

noncomputable section

namespace Cert.ReferenceIdeal.RefAgg

open Corr (corr rowOf AllReal pos weight agg aggregated)
open Cert.ReferenceIdeal Cert.ReferenceIdeal.Gen Cert.ReferenceIdeal.Read Cert.ReferenceIdeal.RefWeights Cert.ReferenceIdeal.Take
  Cert.ReferenceIdeal.Gather
open Idealize.ShloMosaic Idealize.ShloMosaic.ValueIdx

/-- One delay's share: the doubled value row read at the delayed position, times the delay's weight. -/
theorem share_apply (X : FVec Ideal S2x16x4096x64 .f32) (hX : AllReal X) (d : IVec S2x16x4096x64 32) (w : FVec Ideal S2x16x4096x64 .f32)
    (b : Fin 2) (h : Fin 16) (l : Fin 4096) (t p : Fin 64) (r : ℝ)
    (hd : d (ix4 b h l t) = IntOp.addi (BitVec.ofNat 32 t.val) (BitVec.ofNat 32 p.val)) (hw : w (ix4 b h l t) = (r : EReal)) :
    mulf (takeAlong (val_main_v23 (F := Ideal) X) d) w (ix4 b h l t) = ((r * rowOf X b h l (t + p) : ℝ) : EReal) := by
  have hn : t.val + p.val < 128 := by omega
  have e : (⟨(t.val + p.val) % 64, Nat.mod_lt _ (by decide)⟩ : Fin 64) = t + p := Fin.ext (Fin.val_add t p).symm
  rw [ValueIdx.mulf_apply, take_apply d b h l t (t.val + p.val) hn (hd.trans (BitVec.ofNat_add _ _).symm), hw]
  unfold val_main_v23
  rw [doubled_apply, e, hX, ← EReal.coe_mul, mul_comm]

variable (Q K X : FVec Ideal S2x16x4096x64 .f32)

/-! Each round reads the doubled rows, at the row's positions plus the round's delay, … -/

theorem pattern0 : val_main_v30 (F := Ideal) Q K X = takeAlong (val_main_v23 (F := Ideal) X) (val_main_v29 (F := Ideal) Q K) := rfl

theorem pattern1 : val_main_v40 (F := Ideal) Q K X = takeAlong (val_main_v23 (F := Ideal) X) (val_main_v39 (F := Ideal) Q K) := rfl

theorem pattern2 : val_main_v50 (F := Ideal) Q K X = takeAlong (val_main_v23 (F := Ideal) X) (val_main_v49 (F := Ideal) Q K) := rfl

theorem pattern3 : val_main_v60 (F := Ideal) Q K X = takeAlong (val_main_v23 (F := Ideal) X) (val_main_v59 (F := Ideal) Q K) := rfl

section
variable (hQ : AllReal Q) (hK : AllReal K) (b : Fin 2) (h : Fin 16) (l : Fin 4096) (t : Fin 64)
include hQ hK

/-! … which are these words, … -/

theorem delay0 : val_main_v29 (F := Ideal) Q K (ix4 b h l t)
    = IntOp.addi (BitVec.ofNat 32 t.val) (BitVec.ofNat 32 (pos (row Q K b h l) 0).val) := by
  have e : idx_main_v26 (idx_main_v28 (ix4 b h l t)) = ix4 b h l 0 := funext fun a => match a with
    | ⟨0, _⟩ => rfl
    | ⟨1, _⟩ => rfl
    | ⟨2, _⟩ => rfl
    | ⟨3, _⟩ => rfl
  rw [val_main_v29_apply, val_main_v28_apply, val_main_v26_apply, e, indices_apply Q K hQ hK, val_main_v27_apply,
    val_main_v25_apply, val_main_v0_apply]

theorem delay1 : val_main_v39 (F := Ideal) Q K (ix4 b h l t)
    = IntOp.addi (BitVec.ofNat 32 t.val) (BitVec.ofNat 32 (pos (row Q K b h l) 1).val) := by
  have e : idx_main_v36 (idx_main_v38 (ix4 b h l t)) = ix4 b h l 1 := funext fun a => match a with
    | ⟨0, _⟩ => rfl
    | ⟨1, _⟩ => rfl
    | ⟨2, _⟩ => rfl
    | ⟨3, _⟩ => rfl
  rw [val_main_v39_apply, val_main_v38_apply, val_main_v36_apply, e, indices_apply Q K hQ hK, val_main_v37_apply,
    val_main_v35_apply, val_main_v0_apply]

theorem delay2 : val_main_v49 (F := Ideal) Q K (ix4 b h l t)
    = IntOp.addi (BitVec.ofNat 32 t.val) (BitVec.ofNat 32 (pos (row Q K b h l) 2).val) := by
  have e : idx_main_v46 (idx_main_v48 (ix4 b h l t)) = ix4 b h l 2 := funext fun a => match a with
    | ⟨0, _⟩ => rfl
    | ⟨1, _⟩ => rfl
    | ⟨2, _⟩ => rfl
    | ⟨3, _⟩ => rfl
  rw [val_main_v49_apply, val_main_v48_apply, val_main_v46_apply, e, indices_apply Q K hQ hK, val_main_v47_apply,
    val_main_v45_apply, val_main_v0_apply]

theorem delay3 : val_main_v59 (F := Ideal) Q K (ix4 b h l t)
    = IntOp.addi (BitVec.ofNat 32 t.val) (BitVec.ofNat 32 (pos (row Q K b h l) 3).val) := by
  have e : idx_main_v56 (idx_main_v58 (ix4 b h l t)) = ix4 b h l 3 := funext fun a => match a with
    | ⟨0, _⟩ => rfl
    | ⟨1, _⟩ => rfl
    | ⟨2, _⟩ => rfl
    | ⟨3, _⟩ => rfl
  rw [val_main_v59_apply, val_main_v58_apply, val_main_v56_apply, e, indices_apply Q K hQ hK, val_main_v57_apply,
    val_main_v55_apply, val_main_v0_apply]

/-! … and weighs what it reads with the round's weight. -/

theorem spread0 : val_main_v32 (F := Ideal) Q K (ix4 b h l t) = (weight (row Q K b h l) 0 : EReal) := by
  have e : idx_main_v31 (idx_main_v32 (ix4 b h l t)) = ix4 b h l 0 := funext fun a => match a with
    | ⟨0, _⟩ => rfl
    | ⟨1, _⟩ => rfl
    | ⟨2, _⟩ => rfl
    | ⟨3, _⟩ => rfl
  rw [val_main_v32_apply, val_main_v31_apply, e, weight_apply Q K hQ hK]

theorem spread1 : val_main_v42 (F := Ideal) Q K (ix4 b h l t) = (weight (row Q K b h l) 1 : EReal) := by
  have e : idx_main_v41 (idx_main_v42 (ix4 b h l t)) = ix4 b h l 1 := funext fun a => match a with
    | ⟨0, _⟩ => rfl
    | ⟨1, _⟩ => rfl
    | ⟨2, _⟩ => rfl
    | ⟨3, _⟩ => rfl
  rw [val_main_v42_apply, val_main_v41_apply, e, weight_apply Q K hQ hK]

theorem spread2 : val_main_v52 (F := Ideal) Q K (ix4 b h l t) = (weight (row Q K b h l) 2 : EReal) := by
  have e : idx_main_v51 (idx_main_v52 (ix4 b h l t)) = ix4 b h l 2 := funext fun a => match a with
    | ⟨0, _⟩ => rfl
    | ⟨1, _⟩ => rfl
    | ⟨2, _⟩ => rfl
    | ⟨3, _⟩ => rfl
  rw [val_main_v52_apply, val_main_v51_apply, e, weight_apply Q K hQ hK]

theorem spread3 : val_main_v62 (F := Ideal) Q K (ix4 b h l t) = (weight (row Q K b h l) 3 : EReal) := by
  have e : idx_main_v61 (idx_main_v62 (ix4 b h l t)) = ix4 b h l 3 := funext fun a => match a with
    | ⟨0, _⟩ => rfl
    | ⟨1, _⟩ => rfl
    | ⟨2, _⟩ => rfl
    | ⟨3, _⟩ => rfl
  rw [val_main_v62_apply, val_main_v61_apply, e, weight_apply Q K hQ hK]

variable (hX : AllReal X)
include hX

theorem term0 : val_main_v33 (F := Ideal) Q K X (ix4 b h l t)
    = ((weight (row Q K b h l) 0 * rowOf X b h l (t + pos (row Q K b h l) 0) : ℝ) : EReal) := by
  unfold val_main_v33
  rw [pattern0]
  exact share_apply X hX _ _ b h l t _ _ (delay0 Q K hQ hK b h l t) (spread0 Q K hQ hK b h l t)

theorem term1 : val_main_v43 (F := Ideal) Q K X (ix4 b h l t)
    = ((weight (row Q K b h l) 1 * rowOf X b h l (t + pos (row Q K b h l) 1) : ℝ) : EReal) := by
  unfold val_main_v43
  rw [pattern1]
  exact share_apply X hX _ _ b h l t _ _ (delay1 Q K hQ hK b h l t) (spread1 Q K hQ hK b h l t)

theorem term2 : val_main_v53 (F := Ideal) Q K X (ix4 b h l t)
    = ((weight (row Q K b h l) 2 * rowOf X b h l (t + pos (row Q K b h l) 2) : ℝ) : EReal) := by
  unfold val_main_v53
  rw [pattern2]
  exact share_apply X hX _ _ b h l t _ _ (delay2 Q K hQ hK b h l t) (spread2 Q K hQ hK b h l t)

theorem term3 : val_main_v63 (F := Ideal) Q K X (ix4 b h l t)
    = ((weight (row Q K b h l) 3 * rowOf X b h l (t + pos (row Q K b h l) 3) : ℝ) : EReal) := by
  unfold val_main_v63
  rw [pattern3]
  exact share_apply X hX _ _ b h l t _ _ (delay3 Q K hQ hK b h l t) (spread3 Q K hQ hK b h l t)

/-- The sum of the four terms. -/
theorem sum_apply : val_main_v64 (F := Ideal) Q K X (ix4 b h l t) = (agg (row Q K b h l) (rowOf X b h l) t : EReal) := by
  have z : val_main_v24 (F := Ideal) (ix4 b h l t) = (0 : EReal) := by
    rw [val_main_v24_apply]; exact Ideal.ofBits_zero_f32
  unfold val_main_v64 val_main_v54 val_main_v44 val_main_v34
  rw [ValueIdx.addf_apply, ValueIdx.addf_apply, ValueIdx.addf_apply, ValueIdx.addf_apply, z, zero_add,
    term0 Q K X hQ hK b h l t hX, term1 Q K X hQ hK b h l t hX, term2 Q K X hQ hK b h l t hX, term3 Q K X hQ hK b h l t hX,
    ← EReal.coe_add, ← EReal.coe_add, ← EReal.coe_add]
  rfl

end

/-- The first result. -/
theorem result (hQ : AllReal Q) (hK : AllReal K) (hX : AllReal X) : val_main_v64 (F := Ideal) Q K X = aggregated Q K X := by
  funext i
  rw [eq_ix4 i]
  exact sum_apply Q K X hQ hK _ _ _ _ hX

end Cert.ReferenceIdeal.RefAgg

end
-- ==== Proof.lean ====
/- The certificate's claim, assembled: the three programs run and leave their arguments alone, the idealized kernel is the
   kernel's idealization, and on finite arguments the idealized kernel and the idealized reference end with equal results.
   Both results meet in the arrays of Proof/Target.lean: `Array.final5` and `Array.final6` give the kernel's,
   `RefAgg.result` and `RefCorr.result` the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Finite
public import proofs.«01_k».proof.Proof.RefAgg
public import Idealize.ShloMosaic.Adequacy
public import Idealize.ShloMosaic.Init

@[expose] public section

noncomputable section

namespace Cert.Proof

open Idealize.ShloMosaic Idealize.SL.Sem Cert.Kernel

/-- The reference ends with its arguments unchanged and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- On finite arguments the kernel and the reference end with equal results: the aggregated values and the correlations. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  have hr := fun c => @Cert.Pre_finite.allReal Cert.Pre_finite.facts _ _ _ (hpre c)
  refine ⟨fun c => Corr.aggregated (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Corr.correlations (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks (F := Ideal) m g)
    obtain ⟨h5, h6, ha⟩ := h c
    exact ⟨h5.trans (Cert.KernelIdeal.Array.final5 m c (hr c).1 (hr c).2.1 (hr c).2.2),
      h6.trans (Cert.KernelIdeal.Array.final6 m c (hr c).1 (hr c).2.1), ha⟩
  · refine (θ_run Cert.ReferenceIdeal.defs _ _).mono (fun r h c => ?_) (Cert.ReferenceIdeal.Value.run (F := Ideal) m' g')
    obtain ⟨h0, h1, ha⟩ := h c
    refine ⟨h0.trans ((Cert.ReferenceIdeal.Read.val_main_v64_eq m' c).trans ?_),
      h1.trans ((Cert.ReferenceIdeal.Read.val_main_v66_eq _ _).trans ?_), ha⟩
    · rw [(hagree c).1, (hagree c).2.1, (hagree c).2.2]
      exact Cert.ReferenceIdeal.RefAgg.result _ _ _ (hr c).1 (hr c).2.1 (hr c).2.2
    · rw [(hagree c).1, (hagree c).2.1]
      exact Cert.ReferenceIdeal.RefCorr.result _ _ (hr c).1 (hr c).2.1

/-- Everything the certificate claims. -/
theorem claim : Cert.Claim := ⟨Cert.Kernel.Gen.facts, Cert.KernelIdeal.Gen.facts, Cert.ReferenceIdeal.Gen.facts, Cert.Pre_finite.facts,
  fun m g _ => Cert.Kernel.Gen.frame m g, fun m g _ => Cert.KernelIdeal.Gen.frame m g, fun m g _ => Cert.KernelIdeal.Gen.frame m g,
  fun m g _ => reference_frame m g, fun m g _ => reference_frame m g, trivial, algebraic⟩

end Cert.Proof

end
